-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x256x3 : Shape := ⟨3, ![8, 256, 3]⟩
abbrev S8x256 : Shape := ⟨2, ![8, 256]⟩
abbrev S95 : Shape := ⟨1, ![95]⟩
abbrev S95x95x5x5 : Shape := ⟨4, ![95, 95, 5, 5]⟩
abbrev S_ : Shape := ⟨0, ![]⟩

class Facts : Prop where
  bcast_S_S8x256 : S_.BroadcastsInDim S8x256 (![] : Fin 0 → Fin S8x256.rank)
  bcast_S_S95 : S_.BroadcastsInDim S95 (![] : Fin 0 → Fin S95.rank)
  bcast_S_S95x95x5x5 : S_.BroadcastsInDim S95x95x5x5 (![] : Fin 0 → Fin S95x95x5x5.rank)

variable [Facts]

def fn {F : FTy → Type} [FloatOps F] (main_arg0 : FVec F S8x256x3 .f32) (main_arg1 : IVec S8x256 32) (main_arg2 : FVec F S95 .f32) (main_arg3 : FVec F S95 .f32) (main_arg4 : FVec F S95x95x5x5 .f32) (main_arg5 : FVec F S95x95x5x5 .f32) : IVec S8x256 1 × IVec S95 1 × IVec S95x95x5x5 1 :=
  let main_c : IVec S_ 32 := constantI S_ 32 0#32
  let main_v0 : IVec S8x256 32 := broadcastInDim S8x256 ![] bcast_S_S8x256 main_c
  let main_v1 : IVec S8x256 1 := cmpi .sge main_arg1 main_v0
  let main_c_0 : IVec S_ 32 := constantI S_ 32 95#32
  let main_v2 : IVec S8x256 32 := broadcastInDim S8x256 ![] bcast_S_S8x256 main_c_0
  let main_v3 : IVec S8x256 1 := cmpi .slt main_arg1 main_v2
  let main_v4 : IVec S8x256 1 := andi main_v1 main_v3
  let main_cst : FVec F S_ .f32 := constant S_ .f32 0x7F800000#32
  let main_v5 : FVec F S95 .f32 := broadcastInDim S95 ![] bcast_S_S95 main_cst
  let main_v6 : IVec S95 1 := cmpf .olt main_arg2 main_v5
  let main_cst_1 : FVec F S_ .f32 := constant S_ .f32 0x00000000#32
  let main_v7 : FVec F S95x95x5x5 .f32 := broadcastInDim S95x95x5x5 ![] bcast_S_S95x95x5x5 main_cst_1
  let main_v8 : IVec S95x95x5x5 1 := cmpf .ogt main_arg4 main_v7
  let main_cst_2 : FVec F S_ .f32 := constant S_ .f32 0x7F800000#32
  let main_v9 : FVec F S95x95x5x5 .f32 := broadcastInDim S95x95x5x5 ![] bcast_S_S95x95x5x5 main_cst_2
  let main_v10 : IVec S95x95x5x5 1 := cmpf .olt main_arg4 main_v9
  let main_v11 : IVec S95x95x5x5 1 := andi main_v8 main_v10
  (main_v4, main_v6, main_v11)
-- ==== Kernel.lean ====
abbrev S8x256x3 : Shape := ⟨3, ![8, 256, 3]⟩
abbrev S8x256 : Shape := ⟨2, ![8, 256]⟩
abbrev S95 : Shape := ⟨1, ![95]⟩
abbrev S95x95x5x5 : Shape := ⟨4, ![95, 95, 5, 5]⟩
abbrev S95x95x25 : Shape := ⟨3, ![95, 95, 25]⟩
abbrev S95x95x50 : Shape := ⟨3, ![95, 95, 50]⟩
abbrev S95x50x95 : Shape := ⟨3, ![95, 50, 95]⟩
abbrev S_ : Shape := ⟨0, ![]⟩
abbrev S96x50x128 : Shape := ⟨3, ![96, 50, 128]⟩
abbrev S96x6400 : Shape := ⟨2, ![96, 6400]⟩
abbrev S192x6400 : Shape := ⟨2, ![192, 6400]⟩
abbrev S128 : Shape := ⟨1, ![128]⟩
abbrev S256 : Shape := ⟨1, ![256]⟩
abbrev S1x256 : Shape := ⟨2, ![1, 256]⟩
abbrev S2x256 : Shape := ⟨2, ![2, 256]⟩
abbrev S8x1x256 : Shape := ⟨3, ![8, 1, 256]⟩
abbrev S8x256x1 : Shape := ⟨3, ![8, 256, 1]⟩
abbrev S8x3x256 : Shape := ⟨3, ![8, 3, 256]⟩
abbrev S8x8x256 : Shape := ⟨3, ![8, 8, 256]⟩
abbrev S8x1x128 : Shape := ⟨3, ![8, 1, 128]⟩
abbrev S1x1x256 : Shape := ⟨3, ![1, 1, 256]⟩
abbrev S1x256x1 : Shape := ⟨3, ![1, 256, 1]⟩
abbrev S1x8x256 : Shape := ⟨3, ![1, 8, 256]⟩
abbrev S1x1x128 : Shape := ⟨3, ![1, 1, 128]⟩
abbrev S256x1 : Shape := ⟨2, ![256, 1]⟩
abbrev S256x256 : Shape := ⟨2, ![256, 256]⟩
abbrev S256x192 : Shape := ⟨2, ![256, 192]⟩
abbrev S192x128 : Shape := ⟨2, ![192, 128]⟩
abbrev S256x128 : Shape := ⟨2, ![256, 128]⟩
abbrev S1x256x256 : Shape := ⟨3, ![1, 256, 256]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 55
  | .vmem => 10
  | .smem => 0
  | _ => 0

abbrev bufTy : (tb : Table) → Fin (tcTables nBuf tb) → BufTy
  | .hbm, ⟨0, _⟩ => ⟨S8x256x3, .f32⟩
  | .hbm, ⟨1, _⟩ => ⟨S8x256, .i32⟩
  | .hbm, ⟨2, _⟩ => ⟨S95, .f32⟩
  | .hbm, ⟨3, _⟩ => ⟨S95, .f32⟩
  | .hbm, ⟨4, _⟩ => ⟨S95x95x5x5, .f32⟩
  | .hbm, ⟨5, _⟩ => ⟨S95x95x5x5, .f32⟩
  | .hbm, ⟨6, _⟩ => ⟨S95x95x25, .f32⟩
  | .hbm, ⟨7, _⟩ => ⟨S95x95x25, .f32⟩
  | .hbm, ⟨8, _⟩ => ⟨S95x95x50, .f32⟩
  | .hbm, ⟨9, _⟩ => ⟨S95x50x95, .f32⟩
  | .hbm, ⟨10, _⟩ => ⟨S_, .i32⟩
  | .hbm, ⟨11, _⟩ => ⟨S_, .f32⟩
  | .hbm, ⟨12, _⟩ => ⟨S96x50x128, .f32⟩
  | .hbm, ⟨13, _⟩ => ⟨S96x6400, .f32⟩
  | .hbm, ⟨14, _⟩ => ⟨S96x6400, .bf16⟩
  | .hbm, ⟨15, _⟩ => ⟨S96x6400, .f32⟩
  | .hbm, ⟨16, _⟩ => ⟨S96x6400, .f32⟩
  | .hbm, ⟨17, _⟩ => ⟨S192x6400, .f32⟩
  | .hbm, ⟨18, _⟩ => ⟨S192x6400, .bf16⟩
  | .hbm, ⟨19, _⟩ => ⟨S95, .bf16⟩
  | .hbm, ⟨20, _⟩ => ⟨S95, .f32⟩
  | .hbm, ⟨21, _⟩ => ⟨S95, .f32⟩
  | .hbm, ⟨22, _⟩ => ⟨S95, .bf16⟩
  | .hbm, ⟨23, _⟩ => ⟨S95, .f32⟩
  | .hbm, ⟨24, _⟩ => ⟨S95, .f32⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S256, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S256, .f32⟩
  | .hbm, ⟨39, _⟩ => ⟨S1x256, .f32⟩
  | .hbm, ⟨40, _⟩ => ⟨S1x256, .f32⟩
  | .hbm, ⟨41, _⟩ => ⟨S2x256, .f32⟩
  | .hbm, ⟨42, _⟩ => ⟨S_, .i32⟩
  | .hbm, ⟨43, _⟩ => ⟨S_, .f32⟩
  | .hbm, ⟨44, _⟩ => ⟨S8x256, .f32⟩
  | .hbm, ⟨45, _⟩ => ⟨S8x256, .bf16⟩
  | .hbm, ⟨46, _⟩ => ⟨S8x1x256, .i32⟩
  | .hbm, ⟨47, _⟩ => ⟨S8x256x1, .i32⟩
  | .hbm, ⟨48, _⟩ => ⟨S8x3x256, .f32⟩
  | .hbm, ⟨49, _⟩ => ⟨S_, .i32⟩
  | .hbm, ⟨50, _⟩ => ⟨S_, .f32⟩
  | .hbm, ⟨51, _⟩ => ⟨S8x8x256, .f32⟩
  | .hbm, ⟨52, _⟩ => ⟨S8x1x128, .f32⟩
  | .hbm, ⟨53, _⟩ => ⟨S8x1x1, .f32⟩
  | .hbm, ⟨54, _⟩ => ⟨S8, .f32⟩
  | .local _ .vmem, ⟨0, _⟩ => ⟨S1x1x256, .i32⟩
  | .local _ .vmem, ⟨1, _⟩ => ⟨S1x1x256, .i32⟩
  | .local _ .vmem, ⟨2, _⟩ => ⟨S1x256x1, .i32⟩
  | .local _ .vmem, ⟨3, _⟩ => ⟨S1x256x1, .i32⟩
  | .local _ .vmem, ⟨4, _⟩ => ⟨S1x8x256, .f32⟩
  | .local _ .vmem, ⟨5, _⟩ => ⟨S1x8x256, .f32⟩
  | .local _ .vmem, ⟨6, _⟩ => ⟨S192x6400, .bf16⟩
  | .local _ .vmem, ⟨7, _⟩ => ⟨S8x256, .bf16⟩
  | .local _ .vmem, ⟨8, _⟩ => ⟨S1x1x128, .f32⟩
  | .local _ .vmem, ⟨9, _⟩ => ⟨S1x1x128, .f32⟩
  | _, _ => ⟨S8x256x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_0 : Ref sig .tc := ⟨.hbm, 25, rfl⟩
abbrev main_call1_v0 : Ref sig .tc := ⟨.hbm, 26, rfl⟩
abbrev main_v17 : Ref sig .tc := ⟨.hbm, 27, rfl⟩
abbrev main_c_1 : Ref sig .tc := ⟨.hbm, 28, rfl⟩
abbrev main_call2_v0 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_call3_v0 : Ref sig .tc := ⟨.hbm, 33, rfl⟩
abbrev main_v20 : Ref sig .tc := ⟨.hbm, 34, rfl⟩
abbrev main_c_3 : Ref sig .tc := ⟨.hbm, 35, rfl⟩
abbrev main_call4_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_call5_v0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_call6_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x6400 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x3 : Shape := ⟨3, ![8, 256, 3]⟩
abbrev S8x256 : Shape := ⟨2, ![8, 256]⟩
abbrev S95 : Shape := ⟨1, ![95]⟩
abbrev S95x95x5x5 : Shape := ⟨4, ![95, 95, 5, 5]⟩
abbrev S8x256x1x3 : Shape := ⟨4, ![8, 256, 1, 3]⟩
abbrev S8x1x256x3 : Shape := ⟨4, ![8, 1, 256, 3]⟩
abbrev S8x256x256x3 : Shape := ⟨4, ![8, 256, 256, 3]⟩
abbrev S_ : Shape := ⟨0, ![]⟩
abbrev S8x256x256 : Shape := ⟨3, ![8, 256, 256]⟩
abbrev S256x256 : Shape := ⟨2, ![256, 256]⟩
abbrev S1x256x256 : Shape := ⟨3, ![1, 256, 256]⟩
abbrev S8x256x1 : Shape := ⟨3, ![8, 256, 1]⟩
abbrev S8x1x256 : Shape := ⟨3, ![8, 1, 256]⟩
abbrev S8x256x256x1 : Shape := ⟨4, ![8, 256, 256, 1]⟩
abbrev S8x256x256x2 : Shape := ⟨4, ![8, 256, 256, 2]⟩
abbrev S8x256x256x5x5 : Shape := ⟨5, ![8, 256, 256, 5, 5]⟩
abbrev S8x256x1x1x1 : Shape := ⟨5, ![8, 256, 1, 1, 1]⟩
abbrev S8x1x256x1x1 : Shape := ⟨5, ![8, 1, 256, 1, 1]⟩
abbrev S256x256x5x5 : Shape := ⟨4, ![256, 256, 5, 5]⟩
abbrev S8 : Shape := ⟨1, ![8]⟩

abbrev nBuf : Space → Nat
  | .hbm => 240
  | .vmem => 0
  | .smem => 0
  | _ => 0

abbrev hbmTy0_0 (i : Nat) : BufTy := match i % 128 with
  | 0 => ⟨S8x256x3, .f32⟩
  | 1 => ⟨S8x256, .i32⟩
  | 2 => ⟨S95, .f32⟩
  | 3 => ⟨S95, .f32⟩
  | 4 => ⟨S95x95x5x5, .f32⟩
  | 5 => ⟨S95x95x5x5, .f32⟩
  | 6 => ⟨S8x256x1x3, .f32⟩
  | 7 => ⟨S8x1x256x3, .f32⟩
  | 8 => ⟨S8x256x256x3, .f32⟩
  | 9 => ⟨S8x256x256x3, .f32⟩
  | 10 => ⟨S8x256x256x3, .f32⟩
  | 11 => ⟨S8x256x256x3, .f32⟩
  | 12 => ⟨S_, .f32⟩
  | 13 => ⟨S8x256x256, .f32⟩
  | 14 => ⟨S256x256, .i32⟩
  | 15 => ⟨S256x256, .i32⟩
  | 16 => ⟨S_, .i32⟩
  | 17 => ⟨S256x256, .i32⟩
  | 18 => ⟨S256x256, .i32⟩
  | 19 => ⟨S256x256, .i1⟩
  | 20 => ⟨S_, .f32⟩
  | 21 => ⟨S_, .f32⟩
  | 22 => ⟨S256x256, .f32⟩
  | 23 => ⟨S8x256x256, .i1⟩
  | 24 => ⟨S8x256x256, .f32⟩
  | 25 => ⟨S8x256x256, .f32⟩
  | 26 => ⟨S8x256x256, .f32⟩
  | 27 => ⟨S256x256, .i1⟩
  | 28 => ⟨S_, .f32⟩
  | 29 => ⟨S8x256x256, .f32⟩
  | 30 => ⟨S8x256x256, .i1⟩
  | 31 => ⟨S1x256x256, .i1⟩
  | 32 => ⟨S8x256x256, .i1⟩
  | 33 => ⟨S8x256x256, .i1⟩
  | 34 => ⟨S_, .i32⟩
  | 35 => ⟨S8x256, .i32⟩
  | 36 => ⟨S8x256, .i1⟩
  | 37 => ⟨S_, .i32⟩
  | 38 => ⟨S8x256, .i32⟩
  | 39 => ⟨S8x256, .i32⟩
  | 40 => ⟨S8x256, .i32⟩
  | 41 => ⟨S8x256x1, .i32⟩
  | 42 => ⟨S8x256, .f32⟩
  | 43 => ⟨S8x256x1, .f32⟩
  | 44 => ⟨S8x1x256, .f32⟩
  | 45 => ⟨S8x256x256, .f32⟩
  | 46 => ⟨S8x256x256, .f32⟩
  | 47 => ⟨S8x256x256, .f32⟩
  | 48 => ⟨S_, .f32⟩
  | 49 => ⟨S8x256x256, .f32⟩
  | 50 => ⟨S8x256x256, .f32⟩
  | 51 => ⟨S8x256x256, .f32⟩
  | 52 => ⟨S_, .f32⟩
  | 53 => ⟨S8x256x256, .f32⟩
  | 54 => ⟨S8x256x256, .f32⟩
  | 55 => ⟨S_, .f32⟩
  | 56 => ⟨S8x256x256, .f32⟩
  | 57 => ⟨S8x256x256, .f32⟩
  | 58 => ⟨S8x256x256, .f32⟩
  | 59 => ⟨S_, .f32⟩
  | 60 => ⟨S8x256x256, .f32⟩
  | 61 => ⟨S8x256x256, .f32⟩
  | 62 => ⟨S_, .f32⟩
  | 63 => ⟨S8x256x256, .f32⟩
  | 64 => ⟨S8x256x256, .f32⟩
  | 65 => ⟨S_, .f32⟩
  | 66 => ⟨S_, .f32⟩
  | 67 => ⟨S256x256, .f32⟩
  | 68 => ⟨S8x256x256, .f32⟩
  | 69 => ⟨S8x256x256, .f32⟩
  | 70 => ⟨S_, .f32⟩
  | 71 => ⟨S8x256, .f32⟩
  | 72 => ⟨S8x256x1, .i32⟩
  | 73 => ⟨S8x1x256, .i32⟩
  | 74 => ⟨S_, .i32⟩
  | 75 => ⟨S8x256x1, .i32⟩
  | 76 => ⟨S8x256x1, .i1⟩
  | 77 => ⟨S_, .i32⟩
  | 78 => ⟨S8x256x1, .i32⟩
  | 79 => ⟨S8x256x1, .i32⟩
  | 80 => ⟨S8x256x1, .i32⟩
  | 81 => ⟨S_, .i32⟩
  | 82 => ⟨S8x1x256, .i32⟩
  | 83 => ⟨S8x1x256, .i1⟩
  | 84 => ⟨S_, .i32⟩
  | 85 => ⟨S8x1x256, .i32⟩
  | 86 => ⟨S8x1x256, .i32⟩
  | 87 => ⟨S8x1x256, .i32⟩
  | 88 => ⟨S8x256x256, .i32⟩
  | 89 => ⟨S8x256x256, .i32⟩
  | 90 => ⟨S8x256x256x1, .i32⟩
  | 91 => ⟨S8x256x256x1, .i32⟩
  | 92 => ⟨S8x256x256x2, .i32⟩
  | 93 => ⟨S8x256x256x5x5, .f32⟩
  | 94 => ⟨S8x256x1, .i32⟩
  | 95 => ⟨S8x1x256, .i32⟩
  | 96 => ⟨S_, .i32⟩
  | 97 => ⟨S8x256x1, .i32⟩
  | 98 => ⟨S8x256x1, .i1⟩
  | 99 => ⟨S_, .i32⟩
  | 100 => ⟨S8x256x1, .i32⟩
  | 101 => ⟨S8x256x1, .i32⟩
  | 102 => ⟨S8x256x1, .i32⟩
  | 103 => ⟨S_, .i32⟩
  | 104 => ⟨S8x1x256, .i32⟩
  | 105 => ⟨S8x1x256, .i1⟩
  | 106 => ⟨S_, .i32⟩
  | 107 => ⟨S8x1x256, .i32⟩
  | 108 => ⟨S8x1x256, .i32⟩
  | 109 => ⟨S8x1x256, .i32⟩
  | 110 => ⟨S8x256x256, .i32⟩
  | 111 => ⟨S8x256x256, .i32⟩
  | 112 => ⟨S8x256x256x1, .i32⟩
  | 113 => ⟨S8x256x256x1, .i32⟩
  | 114 => ⟨S8x256x256x2, .i32⟩
  | 115 => ⟨S8x256x256x5x5, .f32⟩
  | 116 => ⟨S8x256x256x5x5, .f32⟩
  | 117 => ⟨S8x256x1x1x1, .f32⟩
  | 118 => ⟨S8x256x256x5x5, .f32⟩
  | 119 => ⟨S8x256x256x5x5, .f32⟩
  | 120 => ⟨S8x1x256x1x1, .f32⟩
  | 121 => ⟨S8x256x256x5x5, .f32⟩
  | 122 => ⟨S8x256x256x5x5, .f32⟩
  | 123 => ⟨S8x256x256x5x5, .f32⟩
  | 124 => ⟨S8x256x256x5x5, .f32⟩
  | 125 => ⟨S8x256x256x5x5, .f32⟩
  | 126 => ⟨S_, .f32⟩
  | 127 => ⟨S8x256x256x5x5, .f32⟩
  | _ => ⟨S8x256x3, .f32⟩

abbrev hbmTy0_1 (i : Nat) : BufTy := match i % 128 with
  | 0 => ⟨S8x256x256x5x5, .f32⟩
  | 1 => ⟨S8x256x256x5x5, .f32⟩
  | 2 => ⟨S_, .f32⟩
  | 3 => ⟨S8x256x256x5x5, .f32⟩
  | 4 => ⟨S8x256x256x5x5, .i1⟩
  | 5 => ⟨S_, .f32⟩
  | 6 => ⟨S_, .f32⟩
  | 7 => ⟨S256x256x5x5, .f32⟩
  | 8 => ⟨S8x256x256x5x5, .f32⟩
  | 9 => ⟨S8x256x256x5x5, .f32⟩
  | 10 => ⟨S_, .f32⟩
  | 11 => ⟨S8x256x256, .f32⟩
  | 12 => ⟨S8x256x256x5x5, .f32⟩
  | 13 => ⟨S_, .f32⟩
  | 14 => ⟨S8x256x256, .f32⟩
  | 15 => ⟨S_, .f32⟩
  | 16 => ⟨S8x256x256, .f32⟩
  | 17 => ⟨S8x256x256, .f32⟩
  | 18 => ⟨S8x256x256, .f32⟩
  | 19 => ⟨S_, .i32⟩
  | 20 => ⟨S8x256, .i32⟩
  | 21 => ⟨S8x256, .i1⟩
  | 22 => ⟨S_, .i32⟩
  | 23 => ⟨S8x256, .i32⟩
  | 24 => ⟨S8x256, .i32⟩
  | 25 => ⟨S8x256, .i32⟩
  | 26 => ⟨S8x256x1, .i32⟩
  | 27 => ⟨S8x256, .f32⟩
  | 28 => ⟨S8x256x1, .f32⟩
  | 29 => ⟨S_, .f32⟩
  | 30 => ⟨S8x256x1, .f32⟩
  | 31 => ⟨S8x256x1, .f32⟩
  | 32 => ⟨S_, .i32⟩
  | 33 => ⟨S8x256, .i32⟩
  | 34 => ⟨S8x256, .i1⟩
  | 35 => ⟨S_, .i32⟩
  | 36 => ⟨S8x256, .i32⟩
  | 37 => ⟨S8x256, .i32⟩
  | 38 => ⟨S8x256, .i32⟩
  | 39 => ⟨S8x256x1, .i32⟩
  | 40 => ⟨S8x256, .f32⟩
  | 41 => ⟨S8x1x256, .f32⟩
  | 42 => ⟨S8x256x256, .f32⟩
  | 43 => ⟨S8x256x256, .f32⟩
  | 44 => ⟨S8x256x256, .f32⟩
  | 45 => ⟨S8x256x256, .f32⟩
  | 46 => ⟨S8x256x256, .f32⟩
  | 47 => ⟨S_, .f32⟩
  | 48 => ⟨S8x256x256, .f32⟩
  | 49 => ⟨S8x256x256, .f32⟩
  | 50 => ⟨S_, .f32⟩
  | 51 => ⟨S8x256x256, .f32⟩
  | 52 => ⟨S8x256x256, .f32⟩
  | 53 => ⟨S8x256x256, .f32⟩
  | 54 => ⟨S8x256x256, .f32⟩
  | 55 => ⟨S8x256x256, .f32⟩
  | 56 => ⟨S8x256x256, .f32⟩
  | 57 => ⟨S8x256x256, .f32⟩
  | 58 => ⟨S8x256x256, .f32⟩
  | 59 => ⟨S_, .f32⟩
  | 60 => ⟨S8x256x256, .f32⟩
  | 61 => ⟨S8x256x256, .f32⟩
  | 62 => ⟨S8x256x256, .f32⟩
  | 63 => ⟨S8x256x256, .f32⟩
  | 64 => ⟨S8x256x256, .f32⟩
  | 65 => ⟨S8x256x256, .f32⟩
  | 66 => ⟨S8x256x256, .f32⟩
  | 67 => ⟨S_, .f32⟩
  | 68 => ⟨S8x256x256, .f32⟩
  | 69 => ⟨S8x256x256, .f32⟩
  | 70 => ⟨S8x256x256, .f32⟩
  | 71 => ⟨S8x256x256, .f32⟩
  | 72 => ⟨S8x256x256, .f32⟩
  | 73 => ⟨S8x256x256, .f32⟩
  | 74 => ⟨S8x256x256, .f32⟩
  | 75 => ⟨S8x256x256, .f32⟩
  | 76 => ⟨S_, .f32⟩
  | 77 => ⟨S8x256x256, .f32⟩
  | 78 => ⟨S8x256x256, .f32⟩
  | 79 => ⟨S_, .f32⟩
  | 80 => ⟨S8x256x256, .f32⟩
  | 81 => ⟨S8x256x256, .f32⟩
  | 82 => ⟨S_, .f32⟩
  | 83 => ⟨S_, .f32⟩
  | 84 => ⟨S_, .f32⟩
  | 85 => ⟨S8x256x256, .f32⟩
  | 86 => ⟨S8x256x256, .f32⟩
  | 87 => ⟨S_, .f32⟩
  | 88 => ⟨S8x256x256, .f32⟩
  | 89 => ⟨S8x256x256, .f32⟩
  | 90 => ⟨S8x256x256, .f32⟩
  | 91 => ⟨S_, .f32⟩
  | 92 => ⟨S8x256x256, .f32⟩
  | 93 => ⟨S8x256x256, .f32⟩
  | 94 => ⟨S_, .f32⟩
  | 95 => ⟨S8x256x256, .f32⟩
  | 96 => ⟨S8x256x256, .f32⟩
  | 97 => ⟨S8x256x256, .f32⟩
  | 98 => ⟨S_, .f32⟩
  | 99 => ⟨S8x256x256, .f32⟩
  | 100 => ⟨S8x256x256, .f32⟩
  | 101 => ⟨S8x256x256, .f32⟩
  | 102 => ⟨S_, .f32⟩
  | 103 => ⟨S_, .f32⟩
  | 104 => ⟨S256x256, .f32⟩
  | 105 => ⟨S8x256x256, .f32⟩
  | 106 => ⟨S8x256x256, .f32⟩
  | 107 => ⟨S_, .f32⟩
  | 108 => ⟨S8, .f32⟩
  | 109 => ⟨S_, .f32⟩
  | 110 => ⟨S8, .f32⟩
  | 111 => ⟨S8, .f32⟩
  | _ => ⟨S8x256x3, .f32⟩

abbrev hbmTy (i : Nat) : BufTy := match i / 128 with
  | 0 => hbmTy0_0 i
  | 1 => hbmTy0_1 i
  | _ => ⟨S8x256x3, .f32⟩

abbrev bufTy : (tb : Table) → Fin (tcTables nBuf tb) → BufTy
  | .hbm, ⟨i, _⟩ => hbmTy i
  | _, _ => ⟨S8x256x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_13 : Ref sig .tc := ⟨.hbm, 81, rfl⟩
abbrev main_v53 : Ref sig .tc := ⟨.hbm, 82, rfl⟩
abbrev main_v54 : Ref sig .tc := ⟨.hbm, 83, rfl⟩
abbrev main_c_14 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_17 : Ref sig .tc := ⟨.hbm, 103, rfl⟩
abbrev main_v71 : Ref sig .tc := ⟨.hbm, 104, rfl⟩
abbrev main_v72 : Ref sig .tc := ⟨.hbm, 105, rfl⟩
abbrev main_c_18 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_19 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_20 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v97 : Ref sig .tc := ⟨.hbm, 137, rfl⟩
abbrev main_cst_22 : Ref sig .tc := ⟨.hbm, 138, rfl⟩
abbrev main_v98 : Ref sig .tc := ⟨.hbm, 139, rfl⟩
abbrev main_v99 : Ref sig .tc := ⟨.hbm, 140, rfl⟩
abbrev main_cst_23 : Ref sig .tc := ⟨.hbm, 141, rfl⟩
abbrev main_v100 : Ref sig .tc := ⟨.hbm, 142, rfl⟩
abbrev main_cst_24 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_25 : Ref sig .tc := ⟨.hbm, 147, rfl⟩
abbrev main_v104 : Ref sig .tc := ⟨.hbm, 148, rfl⟩
abbrev main_v105 : Ref sig .tc := ⟨.hbm, 149, rfl⟩
abbrev main_c_26 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_cst_27 : Ref sig .tc := ⟨.hbm, 157, rfl⟩
abbrev main_v112 : Ref sig .tc := ⟨.hbm, 158, rfl⟩
abbrev main_v113 : Ref sig .tc := ⟨.hbm, 159, rfl⟩
abbrev main_c_28 : Ref sig .tc := ⟨.hbm, 160, rfl⟩
abbrev main_v114 : Ref sig .tc := ⟨.hbm, 161, rfl⟩
abbrev main_v115 : Ref sig .tc := ⟨.hbm, 162, rfl⟩
abbrev main_c_29 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_30 : Ref sig .tc := ⟨.hbm, 175, rfl⟩
abbrev main_v127 : Ref sig .tc := ⟨.hbm, 176, rfl⟩
abbrev main_v128 : Ref sig .tc := ⟨.hbm, 177, rfl⟩
abbrev main_cst_31 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_32 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_33 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_cst_34 : Ref sig .tc := ⟨.hbm, 204, rfl⟩
abbrev main_v152 : Ref sig .tc := ⟨.hbm, 205, rfl⟩
abbrev main_v153 : Ref sig .tc := ⟨.hbm, 206, rfl⟩
abbrev main_cst_35 : Ref sig .tc := ⟨.hbm, 207, rfl⟩
abbrev main_v154 : Ref sig .tc := ⟨.hbm, 208, rfl⟩
abbrev main_v155 : Ref sig .tc := ⟨.hbm, 209, rfl⟩
abbrev main_cst_36 : Ref sig .tc := ⟨.hbm, 210, rfl⟩
abbrev main_cst_37 : Ref sig .tc := ⟨.hbm, 211, rfl⟩
abbrev main_call3_v0 : Ref sig .tc := ⟨.hbm, 212, rfl⟩
abbrev main_call3_v1 : Ref sig .tc := ⟨.hbm, 213, rfl⟩
abbrev main_call3_v2 : Ref sig .tc := ⟨.hbm, 214, rfl⟩
abbrev main_call3_v3 : Ref sig .tc := ⟨.hbm, 215, rfl⟩
abbrev main_call3_v4 : Ref sig .tc := ⟨.hbm, 216, rfl⟩
abbrev main_v156 : Ref sig .tc := ⟨.hbm, 217, rfl⟩
abbrev main_v157 : Ref sig .tc := ⟨.hbm, 218, rfl⟩
abbrev main_cst_38 : Ref sig .tc := ⟨.hbm, 219, rfl⟩
abbrev main_v158 : Ref sig .tc := ⟨.hbm, 220, rfl⟩
abbrev main_v159 : Ref sig .tc := ⟨.hbm, 221, rfl⟩
abbrev main_cst_39 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_cst_40 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_cst_41 : Ref sig .tc := ⟨.hbm, 230, rfl⟩
abbrev main_call4_v0 : Ref sig .tc := ⟨.hbm, 231, rfl⟩
abbrev main_call4_v1 : Ref sig .tc := ⟨.hbm, 232, rfl⟩
abbrev main_call4_v2 : Ref sig .tc := ⟨.hbm, 233, rfl⟩
abbrev main_v166 : Ref sig .tc := ⟨.hbm, 234, rfl⟩
abbrev main_cst_42 : Ref sig .tc := ⟨.hbm, 235, rfl⟩
abbrev main_v167 : Ref sig .tc := ⟨.hbm, 236, rfl⟩
abbrev main_cst_43 : Ref sig .tc := ⟨.hbm, 237, rfl⟩
abbrev main_v168 : Ref sig .tc := ⟨.hbm, 238, rfl⟩
abbrev main_v169 : Ref sig .tc := ⟨.hbm, 239, rfl⟩

abbrev nD : Nat := 1
abbrev τ : Topo := Topo.v7x

variable {F : FTy → Type} [FloatOps F]
-- ==== Proof.Body.lean ====
/- What the kernel's body stores, put together from a few named steps: the two-part table look-up, the Gaussian weight
   of one reference state, the running sums over the 25 pairs of states, and the energy at the end. The theorem at the
   foot says that the stored block is exactly this composition; nothing is evaluated here. -/
module

public import proofs.«01_k».proof.Proof.Gen.KernelIdeal.Frame

@[expose] public section

set_option maxRecDepth 16384

noncomputable section

namespace Cert.Energy

open Idealize.ShloMosaic Cert.KernelIdeal Cert.KernelIdeal.Gen

variable {F : FTy → Type} [FloatOps F]

/-- A pair matrix: one value for every ordered pair of atoms. -/
abbrev Pairs (F : FTy → Type) : Type := FVec F S256x256 .f32

/-- The two-sided look-up: rows picked by the one-hot matrix `v22` out of a table slice, the picked values cut in a part
    and its rest, and columns picked out of both by the one-hot matrix `v11`. -/
def lookup (v22 : FVec F S256x192 .bf16) (v11 : FVec F S256x256 .bf16) (s : Vec F S192x128 .bf16) : Pairs F :=
  have p : FVec F S256x128 .f32 := matmul dot_S256x192_S192x128_S256x128_1_0_0_1_n_n none v22
    (shapeCast S192x128 s shapeCasts_S192x128_S192x128) (constant S256x128 .f32 0x00000000#32)
  have hi : FVec F S256x128 .bf16 := truncf .bf16 p bitsLt_bf16_f32
  have lo : FVec F S256x128 .bf16 := truncf .bf16 (subf p (extf .f32 hi bitsLt_bf16_f32)) bitsLt_bf16_f32
  matmul dot_S256x256_S256x256_S256x256_1_0_0_1_n_n none
    (concatenate S256x256 1 [⟨S256x128, hi⟩, ⟨S256x128, lo⟩] concatenates_S256x128_S256x128_S256x256_d1) v11
    (constant S256x256 .f32 0x00000000#32)

/-- The Gaussian weight of one reference state: `exp (-4 (cn - ref)²)`. -/
def weight (cn g : Pairs F) : Pairs F :=
  exp (mulf (broadcast S256x256 (Scalar.ofBits .f32 0xC0800000#32)) (mulf (subf cn g) (subf cn g)))

/-- A pair matrix with its two atoms exchanged. -/
def flip (v : Pairs F) : Pairs F := transpose S256x256 [1, 0] v transposes_S256x256_p1_0_S256x256

/-- The state pair `(b, a)` of the state pair `n = (a, b)`, both counted row by row. -/
def swapped (n : ℕ) : ℕ := n % 5 * 5 + n / 5

/-- The weight of state pair `n`: the first atom's weight times the second atom's. -/
def both (W : ℕ → Pairs F) (n : ℕ) : Pairs F := mulf (W n) (flip (W (swapped n)))

/-- The running sum of the weights over the first `n` state pairs. -/
def denSum (W : ℕ → Pairs F) : ℕ → Pairs F
  | 0 => broadcast S256x256 (Scalar.ofBits .f32 0x00000000#32)
  | n + 1 => addf (denSum W n) (both W n)

/-- The running sum of weight times coefficient over the first `n` state pairs. -/
def numSum (W G : ℕ → Pairs F) : ℕ → Pairs F
  | 0 => broadcast S256x256 (Scalar.ofBits .f32 0x00000000#32)
  | n + 1 => addf (numSum W G n) (mulf (both W n) (G n))

/-- The interpolated C6 coefficients. -/
def c6of (W G : ℕ → Pairs F) : Pairs F :=
  divf (numSum W G 25) (addf (denSum W 25) (broadcast S256x256 (Scalar.ofBits .f32 0x2B8CBCCC#32)))

/-- Each of the fifty slices of the stacked table lies within it. -/
theorem slice_inb (n : ℕ) (h : n < 50) : ∀ a, (![0, 128 * n] : Fin 2 → ℕ) a + S192x128.size a ≤ S192x6400.size a := by
  intro a
  match a with
  | ⟨0, _⟩ => show 0 + 192 ≤ 192; omega
  | ⟨1, _⟩ => show 128 * n + 128 ≤ 6400; omega

/-- Slice `n` of the stacked tables: 128 columns; slices 0 to 24 hold the C6 coefficients, 25 to 49 the reference
    coordination numbers. -/
def slice (x3 : Vec F S192x6400 .bf16) (n : ℕ) : Vec F S192x128 .bf16 :=
  if h : n < 50 then View.ld x3 (Rect.unit (s := S192x6400) ![0, 128 * n] S192x128.size (slice_inb n h)) else View.ld x3 r0_6

/-- The weights of the 25 state pairs. -/
def weights (v22 : FVec F S256x192 .bf16) (v11 : FVec F S256x256 .bf16) (cn : Pairs F) (x3 : Vec F S192x6400 .bf16) (n : ℕ) : Pairs F :=
  weight cn (lookup v22 v11 (slice x3 (25 + n)))

/-- The coefficients of the 25 state pairs. -/
def coeffs (v22 : FVec F S256x192 .bf16) (v11 : FVec F S256x256 .bf16) (x3 : Vec F S192x6400 .bf16) (n : ℕ) : Pairs F :=
  lookup v22 v11 (slice x3 n)

/-- The energy block from the interpolated coefficients and the rest. -/
def finish (c6 d d2 r4row r4col : Pairs F) (mask : IVec S256x256 1) : FVec F S1x1x128 .f32 :=
  k0_pay100 d mask (mulf c6 (k0_pay92 r4row r4col)) (k0_pay96 r4row r4col) (k0_pay98 d2)
    (divf (mulf (broadcast S256x256 (Scalar.ofBits .f32 0x3F800000#32)) c6) (addf (k0_pay97 d2) (k0_pay95 r4row r4col)))
    (Scalar.ofBits .f32 0x3F49999A#32)

/-- What the body stores, from the five input blocks. -/
def stored (x0 : Vec F S1x1x256 .i32) (x1 : Vec F S1x256x1 .i32) (x2 : Vec F S1x8x256 .f32) (x3 : Vec F S192x6400 .bf16)
    (x4 : Vec F S8x256 .bf16) : FVec F S1x1x128 .f32 :=
  finish
    (c6of (weights (k0_pay102 x0 x1 x2 x3 x4) (k0_pay101 x0 x1 x2 x3 x4) (k0_pay108 x0 x1 x2 x3 x4) x3)
      (coeffs (k0_pay102 x0 x1 x2 x3 x4) (k0_pay101 x0 x1 x2 x3 x4) x3))
    (k0_pay11 (k0_pay105 x0 x1 x2 x3 x4) (View.ld x2 r0_4) (View.ld x2 r0_5))
    (k0_pay106 x0 x1 x2 x3 x4)
    (k0_pay103 x0 x1 x2 x3 x4) (k0_pay104 x0 x1 x2 x3 x4)
    (k0_pay12 (k0_pay105 x0 x1 x2 x3 x4) (View.ld x2 r0_4) (View.ld x2 r0_5))

set_option maxHeartbeats 4000000 in
/-- The body's stored block is this composition. -/
theorem out_eq (x0 : Vec F S1x1x256 .i32) (x1 : Vec F S1x256x1 .i32) (x2 : Vec F S1x8x256 .f32) (x3 : Vec F S192x6400 .bf16)
    (x4 : Vec F S8x256 .bf16) : out0_5 x0 x1 x2 x3 x4 = View.canon [⟨r0_56, stored x0 x1 x2 x3 x4⟩] := by
  rfl

end Cert.Energy

end
-- ==== Proof.Scalar.lean ====
/- Facts about extended reals that the equation of the two energies needs: a value plus what a split leaves over, squares
   of differences, the exponential of a sum, the square root of a square, and the damping denominators. -/
module

public import Idealize.ShloMosaic.Lib.Pipeline.ValueKit

@[expose] public section

noncomputable section

namespace Cert.Energy

open Idealize.ShloMosaic

/-- A value and what is left of it after taking it away: the value when it is finite, `⊥` when it is infinite. -/
def rejoin (x : EReal) : EReal := x + (x - x)

/-- A real number comes back from its two parts. -/
theorem rejoin_coe (r : ℝ) : rejoin (r : EReal) = r := by
  unfold rejoin
  rw [← EReal.coe_sub, sub_self, EReal.coe_zero, add_zero]

/-- Plus infinity, cut and rejoined, is minus infinity. -/
theorem rejoin_top : rejoin ⊤ = ⊥ := by
  unfold rejoin
  rw [sub_eq_add_neg, EReal.neg_top, EReal.add_bot, EReal.add_bot]

/-- Minus infinity, cut and rejoined, stays. -/
theorem rejoin_bot : rejoin ⊥ = ⊥ := by
  unfold rejoin
  rw [EReal.bot_add]

/-- Rejoining twice is rejoining once. -/
theorem rejoin_rejoin (x : EReal) : rejoin (rejoin x) = rejoin x := by
  induction x with
  | bot => rw [rejoin_bot, rejoin_bot]
  | coe r => rw [rejoin_coe, rejoin_coe]
  | top => rw [rejoin_top, rejoin_bot]

/-- Below `⊤` a value comes back as it was. -/
theorem rejoin_of_lt {x : EReal} (h : x < ⊤) : rejoin x = x := by
  induction x with
  | bot => exact rejoin_bot
  | coe r => exact rejoin_coe r
  | top => exact absurd h (lt_irrefl _)

/-- The square of a difference does not depend on the order of the two. -/
theorem sub_mul_sub_comm (x y : EReal) : (x - y) * (x - y) = (y - x) * (y - x) := by
  by_cases h : x = y
  · rw [h]
  · have e : -(x - y) = y - x := by
      rw [EReal.neg_sub, add_comm, ← sub_eq_add_neg]
      · by_contra hc
        rw [not_or, not_not, not_not] at hc
        exact h (hc.1.trans hc.2.symm)
      · by_contra hc
        rw [not_or, not_not, not_not] at hc
        exact h (hc.1.trans hc.2.symm)
    rw [← e, neg_mul_neg]

/-- A square is not negative. -/
theorem mul_self_nonneg' (x : EReal) : 0 ≤ x * x := by
  induction x with
  | bot => rw [EReal.bot_mul_bot]; exact le_top
  | coe r => rw [← EReal.coe_mul]; exact EReal.coe_nonneg.mpr (mul_self_nonneg r)
  | top => rw [EReal.top_mul_top]; exact le_top

/-- An infinite reference number gives the same square whether it is `⊤` or `⊥`. -/
theorem sub_rejoin_sq (c t : EReal) : (c - rejoin t) * (c - rejoin t) = (c - t) * (c - t) := by
  induction t with
  | bot => rw [rejoin_bot]
  | coe r => rw [rejoin_coe]
  | top =>
    rw [rejoin_top, sub_eq_add_neg, sub_eq_add_neg, EReal.neg_bot, EReal.neg_top, EReal.add_bot, EReal.bot_mul_bot]
    induction c with
    | bot => rw [EReal.bot_add, EReal.bot_mul_bot]
    | coe r => rw [EReal.coe_add_top, EReal.top_mul_top]
    | top => rw [EReal.top_add_top, EReal.top_mul_top]

/-- The exponential of a sum of two values that are not positive. -/
theorem exp_add {a b : EReal} (ha : a ≤ 0) (hb : b ≤ 0) : Ideal.exp (a + b) = Ideal.exp a * Ideal.exp b := by
  induction a with
  | top => exact absurd ha (by simp)
  | bot =>
    rw [EReal.bot_add]
    show (0 : EReal) = 0 * _
    rw [zero_mul]
  | coe r =>
    induction b with
    | top => exact absurd hb (by simp)
    | bot =>
      rw [EReal.add_bot]
      show (0 : EReal) = _ * 0
      rw [mul_zero]
    | coe q =>
      rw [← EReal.coe_add]
      show ((Real.exp (r + q) : ℝ) : EReal) = ((Real.exp r : ℝ) : EReal) * ((Real.exp q : ℝ) : EReal)
      rw [Real.exp_add, EReal.coe_mul]

/-- The steepness of the Gaussian weights. -/
theorem ofBits_neg_four : Ideal.ofBits .f32 0xC0800000#32 = ((-4 : ℝ) : EReal) := by
  simp [Ideal.ofBits, Ideal.ieee]
  exact_mod_cast (by norm_num)

/-- The slope of the damping radius. -/
theorem ofBits_slope : Ideal.ofBits .f32 0x3EDB98C8#32 = ((14391496 / 33554432 : ℝ) : EReal) := by
  simp [Ideal.ofBits, Ideal.ieee]
  exact_mod_cast (by norm_num)

/-- The offset of the damping radius. -/
theorem ofBits_offset : Ideal.ofBits .f32 0x408E1A37#32 = ((9312823 / 2097152 : ℝ) : EReal) := by
  simp [Ideal.ofBits, Ideal.ieee]
  exact_mod_cast (by norm_num)

/-- The Gaussian of a sum of two squares is the product of the two Gaussians. -/
theorem gauss_mul {a b : EReal} (ha : 0 ≤ a) (hb : 0 ≤ b) :
    Ideal.exp (Ideal.ofBits .f32 0xC0800000#32 * (a + b))
      = Ideal.exp (Ideal.ofBits .f32 0xC0800000#32 * a) * Ideal.exp (Ideal.ofBits .f32 0xC0800000#32 * b) := by
  have hn : Ideal.ofBits .f32 0xC0800000#32 ≤ 0 := by
    rw [ofBits_neg_four]
    exact_mod_cast (by norm_num : (-4 : ℝ) ≤ 0)
  rw [EReal.left_distrib_of_nonneg ha hb]
  exact exp_add (EReal.mul_nonpos_iff.mpr (Or.inr ⟨hn, ha⟩)) (EReal.mul_nonpos_iff.mpr (Or.inr ⟨hn, hb⟩))

/-- The square root of a value that is not negative, squared, is the value. -/
theorem sqrt_mul_sqrt {x : EReal} (h : 0 ≤ x) : Ideal.sqrt x * Ideal.sqrt x = x := by
  induction x with
  | bot => exact absurd h (by simp)
  | top => exact EReal.top_mul_top
  | coe r =>
    have hr : 0 ≤ r := EReal.coe_nonneg.mp h
    rw [Ideal.sqrt_coe, if_neg (not_lt.mpr hr), ← EReal.coe_mul, Real.mul_self_sqrt hr]

/-- A quotient by `⊤` is 0. -/
theorem div_top (x : EReal) : Ideal.div x ⊤ = 0 := by
  unfold Ideal.div
  rw [if_neg (by simp), EReal.inv_top, mul_zero]

end Cert.Energy

end
-- ==== Proof.Model.lean ====
/- The energy of one system of 256 atoms as a formula over the extended reals, written twice: as the reference writes it,
   and as the kernel's body computes it from rejoined table entries. The last theorem says the two are equal when every
   radius is below `⊤` and every coefficient is positive and finite. -/
module

public import proofs.«01_k».proof.Proof.Scalar

@[expose] public section

noncomputable section

namespace Cert.Energy

open Idealize.ShloMosaic

/-- Squared distance of two atoms; 1 for an atom and itself. -/
def dist2 (X : Fin 256 → Fin 3 → EReal) (i j : Fin 256) : EReal :=
  if i = j then 1 else ∑ a : Fin 3, (X i a - X j a) * (X i a - X j a)

/-- Distance of two atoms. -/
def dist (X : Fin 256 → Fin 3 → EReal) (i j : Fin 256) : EReal := Ideal.sqrt (dist2 X i j)

/-- Two different atoms within the cutoff. -/
def Near (X : Fin 256 → Fin 3 → EReal) (i j : Fin 256) : Prop := i ≠ j ∧ dist X i j < Ideal.ofBits .f32 0x41700000#32

/-- Nearness is decided classically. -/
instance (X : Fin 256 → Fin 3 → EReal) (i j : Fin 256) : Decidable (Near X i j) := Classical.propDecidable _

/-- What atom `j` adds to the coordination number of atom `i`, from the two radii. -/
def counting (X : Fin 256 → Fin 3 → EReal) (R : Fin 256 → EReal) (i j : Fin 256) : EReal :=
  Ideal.div 1 (1 + Ideal.exp (Ideal.ofBits .f32 0xC1800000#32
    * (Ideal.div (Ideal.ofBits .f32 0x3FAAAAAB#32 * (R i + R j)) (dist X i j) - 1)))

/-- The coordination number of atom `i`. -/
def coordination (X : Fin 256 → Fin 3 → EReal) (R : Fin 256 → EReal) (i : Fin 256) : EReal :=
  ∑ j : Fin 256, if Near X i j then counting X R i j else 0

/-- The Gaussian weight of one atom's state. -/
def gauss (c t : EReal) : EReal := Ideal.exp (Ideal.ofBits .f32 0xC0800000#32 * ((c - t) * (c - t)))

/-- The reference's weight of the state pair `(p, q)` of the atoms `i`, `j`: 0 where the coefficient is not positive. -/
def refWeight (cn : Fin 256 → EReal) (T G : Fin 256 → Fin 256 → Fin 5 → Fin 5 → EReal) (i j : Fin 256) (p q : Fin 5) : EReal :=
  if 0 < G i j p q then Ideal.exp (Ideal.ofBits .f32 0xC0800000#32
    * ((cn i - T i j p q) * (cn i - T i j p q) + (cn j - T j i q p) * (cn j - T j i q p))) else 0

/-- The reference's interpolated coefficient of two atoms. -/
def refC6 (cn : Fin 256 → EReal) (T G : Fin 256 → Fin 256 → Fin 5 → Fin 5 → EReal) (i j : Fin 256) : EReal :=
  Ideal.div (∑ p : Fin 5, ∑ q : Fin 5, refWeight cn T G i j p q * G i j p q)
    ((∑ p : Fin 5, ∑ q : Fin 5, refWeight cn T G i j p q) + Ideal.ofBits .f32 0x2B8CBCCC#32)

/-- The damping radius from the product of the two atoms' moments. -/
def radius (qq : EReal) : EReal := Ideal.ofBits .f32 0x3EDB98C8#32 * Ideal.sqrt qq + Ideal.ofBits .f32 0x408E1A37#32

/-- The damped energy of two atoms: coefficient, product of moments, sixth and eighth power of the distance, sixth and
    eighth power of the damping radius. -/
def damped (c qq d6 d8 f6 f8 : EReal) : EReal :=
  Ideal.div c (d6 + f6) + Ideal.div (Ideal.ofBits .f32 0x3F49999A#32 * (c * qq)) (d8 + f8)

/-- The position of a distance in the smoothing window, between 0 and 1. -/
def window (d : EReal) : EReal :=
  min 1 (max 0 (Ideal.div (d - Ideal.ofBits .f32 0x41400000#32) (Ideal.ofBits .f32 0x40400000#32)))

/-- The smoothing factor. -/
def smooth (d : EReal) : EReal :=
  1 - window d * window d * (Ideal.ofBits .f32 0x40400000#32 - Ideal.ofBits .f32 0x40000000#32 * window d)

/-- The product of the two atoms' moments, times 3. -/
def moments (Q : Fin 256 → EReal) (i j : Fin 256) : EReal := Ideal.ofBits .f32 0x40400000#32 * Q i * Q j

/-- The reference's damped energy: its powers are products of squares. -/
def refPair (c qq d : EReal) : EReal :=
  damped c qq (d * d * (d * d * (d * d))) (d * d * (d * d) * (d * d * (d * d)))
    (radius qq * radius qq * (radius qq * radius qq * (radius qq * radius qq)))
    (radius qq * radius qq * (radius qq * radius qq) * (radius qq * radius qq * (radius qq * radius qq)))

/-- The reference's energy of one system. -/
def refEnergy (X : Fin 256 → Fin 3 → EReal) (R Q : Fin 256 → EReal) (T G : Fin 256 → Fin 256 → Fin 5 → Fin 5 → EReal) : EReal :=
  Ideal.ofBits .f32 0xBF000000#32 * ∑ i : Fin 256, ∑ j : Fin 256,
    if Near X i j then refPair (refC6 (coordination X R) T G i j) (moments Q i j) (dist X i j) * smooth (dist X i j) else 0

/-- A state pair counted row by row, as a pair. -/
def stateRow (n : ℕ) : Fin 5 := ⟨n / 5 % 5, Nat.mod_lt _ (by decide)⟩
/-- The second state of a state pair counted row by row. -/
def stateCol (n : ℕ) : Fin 5 := ⟨n % 5, Nat.mod_lt _ (by decide)⟩

/-- The kernel's weight of state pair `n`: the product of the two atoms' Gaussians. -/
def kerWeight (cn : Fin 256 → EReal) (T : Fin 256 → Fin 256 → Fin 5 → Fin 5 → EReal) (i j : Fin 256) (n : ℕ) : EReal :=
  gauss (cn i) (rejoin (T i j (stateRow n) (stateCol n))) * gauss (cn j) (rejoin (T j i (stateCol n) (stateRow n)))

/-- The kernel's interpolated coefficient. -/
def kerC6 (cn : Fin 256 → EReal) (T G : Fin 256 → Fin 256 → Fin 5 → Fin 5 → EReal) (i j : Fin 256) : EReal :=
  Ideal.div (∑ n ∈ Finset.range 25, kerWeight cn T i j n * rejoin (G i j (stateRow n) (stateCol n)))
    ((∑ n ∈ Finset.range 25, kerWeight cn T i j n) + Ideal.ofBits .f32 0x2B8CBCCC#32)

/-- The kernel's damped energy: powers of the squared distance and of the squared damping radius. -/
def kerPair (c qq d2 : EReal) : EReal :=
  damped c qq (d2 * d2 * d2) (d2 * d2 * d2 * d2)
    (radius qq * radius qq * (radius qq * radius qq) * (radius qq * radius qq))
    (radius qq * radius qq * (radius qq * radius qq) * (radius qq * radius qq) * (radius qq * radius qq))

/-- The kernel's energy of one system. -/
def kerEnergy (X : Fin 256 → Fin 3 → EReal) (R Q : Fin 256 → EReal) (T G : Fin 256 → Fin 256 → Fin 5 → Fin 5 → EReal) : EReal :=
  Ideal.ofBits .f32 0xBF000000#32 * ∑ i : Fin 256, ∑ j : Fin 256,
    if Near X i j then kerPair (kerC6 (coordination X fun i => rejoin (R i)) T G i j) (moments (fun i => rejoin (Q i)) i j) (dist2 X i j)
      * smooth (dist X i j) else 0

/-- A squared distance is not negative. -/
theorem dist2_nonneg (X : Fin 256 → Fin 3 → EReal) (i j : Fin 256) : 0 ≤ dist2 X i j := by
  unfold dist2
  split
  · exact zero_le_one
  · exact Finset.sum_nonneg fun a _ => mul_self_nonneg' _

/-- Squared distances are symmetric. -/
theorem dist2_comm (X : Fin 256 → Fin 3 → EReal) (i j : Fin 256) : dist2 X i j = dist2 X j i := by
  unfold dist2
  by_cases h : i = j
  · rw [if_pos h, if_pos h.symm]
  · rw [if_neg h, if_neg (Ne.symm h)]
    exact Finset.sum_congr rfl fun a _ => sub_mul_sub_comm _ _

/-- The distance is symmetric. -/
theorem dist_comm (X : Fin 256 → Fin 3 → EReal) (i j : Fin 256) : dist X i j = dist X j i := by
  unfold dist
  rw [dist2_comm]

/-- Nearness is symmetric. -/
theorem near_comm (X : Fin 256 → Fin 3 → EReal) (i j : Fin 256) : Near X i j ↔ Near X j i := by
  unfold Near
  rw [dist_comm X i j, ne_comm]

/-- What two atoms add to each other's coordination number is the same. -/
theorem counting_comm (X : Fin 256 → Fin 3 → EReal) (R : Fin 256 → EReal) (i j : Fin 256) : counting X R i j = counting X R j i := by
  unfold counting
  rw [dist_comm X i j, add_comm (R i)]

/-- The coordination number may be summed over either index. -/
theorem coordination_flip (X : Fin 256 → Fin 3 → EReal) (R : Fin 256 → EReal) (i : Fin 256) :
    (∑ j : Fin 256, if Near X j i then counting X R j i else 0) = coordination X R i := by
  unfold coordination
  refine Finset.sum_congr rfl fun j _ => ?_
  by_cases h : Near X i j
  · rw [if_pos h, if_pos ((near_comm X i j).mp h), counting_comm]
  · rw [if_neg h, if_neg fun h' => h ((near_comm X i j).mpr h')]

/-- A sum over 25 counted state pairs is the double sum over the states. -/
theorem sum_states (f : Fin 5 → Fin 5 → EReal) :
    ∑ n ∈ Finset.range 25, f (stateRow n) (stateCol n) = ∑ p : Fin 5, ∑ q : Fin 5, f p q := by
  simp only [Finset.sum_range_succ, Finset.range_zero, Finset.sum_empty, Fin.sum_univ_five]
  simp only [stateRow, stateCol, zero_add]
  simp only [add_assoc]
  rfl

/-- The kernel's weight is the reference's where the coefficient is positive. -/
theorem kerWeight_eq (cn : Fin 256 → EReal) (T G : Fin 256 → Fin 256 → Fin 5 → Fin 5 → EReal) (i j : Fin 256) (n : ℕ)
    (hG : 0 < G i j (stateRow n) (stateCol n)) :
    kerWeight cn T i j n = refWeight cn T G i j (stateRow n) (stateCol n) := by
  unfold kerWeight refWeight gauss
  rw [if_pos hG, sub_rejoin_sq, sub_rejoin_sq, gauss_mul (mul_self_nonneg' _) (mul_self_nonneg' _)]

/-- The two interpolated coefficients are equal. -/
theorem kerC6_eq (cn : Fin 256 → EReal) (T G : Fin 256 → Fin 256 → Fin 5 → Fin 5 → EReal) (i j : Fin 256)
    (hG : ∀ p q, 0 < G i j p q ∧ G i j p q < ⊤) : kerC6 cn T G i j = refC6 cn T G i j := by
  have hw : ∀ n, kerWeight cn T i j n = refWeight cn T G i j (stateRow n) (stateCol n) := fun n => kerWeight_eq cn T G i j n (hG _ _).1
  have hg : ∀ n, rejoin (G i j (stateRow n) (stateCol n)) = G i j (stateRow n) (stateCol n) := fun n => rejoin_of_lt (hG _ _).2
  unfold kerC6 refC6
  simp only [hw, hg]
  rw [sum_states fun p q => refWeight cn T G i j p q * G i j p q, sum_states fun p q => refWeight cn T G i j p q]

/-- An infinite product of moments leaves no energy. -/
theorem damped_of_top {c qq d6 d8 f6 f8 : EReal} (h6 : d6 + f6 = ⊤) (h8 : d8 + f8 = ⊤) : damped c qq d6 d8 f6 f8 = 0 := by
  unfold damped
  rw [h6, h8, div_top, div_top, add_zero]

/-- The damping radius of an infinite product of moments squares to `⊤`. -/
theorem radius_sq_infinite {qq : EReal} (h : qq = ⊤ ∨ qq = ⊥) : radius qq * radius qq = ⊤ := by
  unfold radius
  rw [ofBits_slope, ofBits_offset]
  rcases h with rfl | rfl
  · show (_ * ⊤ + _) * (_ * ⊤ + _) = (⊤ : EReal)
    rw [EReal.coe_mul_top_of_pos (by norm_num), EReal.top_add_coe, EReal.top_mul_top]
  · show (_ * ⊥ + _) * (_ * ⊥ + _) = (⊤ : EReal)
    rw [EReal.coe_mul_bot_of_pos (by norm_num), EReal.bot_add, EReal.bot_mul_bot]

/-- The kernel's pair energy is 0 where the product of the moments is infinite. -/
theorem kerPair_infinite (c : EReal) {qq d2 : EReal} (h : qq = ⊤ ∨ qq = ⊥) (hd : 0 ≤ d2) : kerPair c qq d2 = 0 := by
  unfold kerPair
  rw [radius_sq_infinite h, EReal.top_mul_top, EReal.top_mul_top, EReal.top_mul_top]
  have h3 : 0 ≤ d2 * d2 * d2 := mul_nonneg (mul_nonneg hd hd) hd
  exact damped_of_top (EReal.add_top_of_ne_bot fun e => absurd (e ▸ h3) (by simp))
    (EReal.add_top_of_ne_bot fun e => absurd (e ▸ mul_nonneg h3 hd) (by simp))

/-- The two damped energies agree, at one product of moments. -/
theorem kerPair_eq (c qq : EReal) {d2 : EReal} (hd : 0 ≤ d2) : kerPair c qq d2 = refPair c qq (Ideal.sqrt d2) := by
  unfold kerPair refPair
  rw [sqrt_mul_sqrt hd]
  congr 1
  · exact mul_assoc _ _ _
  · exact mul_assoc _ _ _
  · exact mul_assoc _ _ _
  · exact mul_assoc _ _ _

/-- The product of the rejoined moments is the product of the moments, or both products are infinite. -/
theorem moments_rejoin (Q : Fin 256 → EReal) (i j : Fin 256) :
    moments (fun i => rejoin (Q i)) i j = moments Q i j
      ∨ ((moments (fun i => rejoin (Q i)) i j = ⊤ ∨ moments (fun i => rejoin (Q i)) i j = ⊥) ∧ (moments Q i j = ⊤ ∨ moments Q i j = ⊥)) := by
  have h3 : ∃ r : ℝ, 0 < r ∧ Ideal.ofBits .f32 0x40400000#32 = (r : EReal) := by
    refine ⟨3, by norm_num, ?_⟩
    simp [Ideal.ofBits, Ideal.ieee]
    exact_mod_cast (by norm_num)
  obtain ⟨r, hr, e⟩ := h3
  unfold moments
  rw [e]
  have inf : ∀ (x y : EReal), (x = ⊤ ∨ x = ⊥) → y ≠ 0 → (x * y = ⊤ ∨ x * y = ⊥) := by
    intro x y hx hy
    rcases lt_or_gt_of_ne hy with hy | hy
    · rcases hx with rfl | rfl
      · exact Or.inr (EReal.top_mul_of_neg hy)
      · exact Or.inl (EReal.bot_mul_of_neg hy)
    · rcases hx with rfl | rfl
      · exact Or.inl (EReal.top_mul_of_pos hy)
      · exact Or.inr (EReal.bot_mul_of_pos hy)
  have rej : ∀ x : EReal, rejoin x = x ∨ (x = ⊤ ∧ rejoin x = ⊥) := by
    intro x
    induction x with
    | bot => exact Or.inl rejoin_bot
    | coe r => exact Or.inl (rejoin_coe r)
    | top => exact Or.inr ⟨rfl, rejoin_top⟩
  have hr0 : (r : EReal) ≠ 0 := by exact_mod_cast hr.ne'
  beta_reduce
  generalize Q i = x
  generalize Q j = y
  rcases rej y with hy | ⟨hy, hy'⟩
  · rw [hy]
    rcases rej x with hx | ⟨hx, hx'⟩
    · rw [hx]; exact Or.inl rfl
    · rw [hx', hx]
      by_cases y0 : y = 0
      · left; rw [y0, mul_zero, mul_zero]
      · right
        constructor
        · exact inf _ _ (by rw [mul_comm]; exact inf _ _ (Or.inr rfl) hr0) y0
        · exact inf _ _ (by rw [mul_comm]; exact inf _ _ (Or.inl rfl) hr0) y0
  · rw [hy', hy]
    have hx0 : rejoin x = 0 ↔ x = 0 := by
      rcases rej x with hx | ⟨hx, hx'⟩
      · rw [hx]
      · rw [hx', hx]; simp
    by_cases x0 : x = 0
    · left; rw [hx0.mpr x0, x0, mul_zero, zero_mul, zero_mul]
    · right
      constructor
      · rw [mul_comm]
        exact inf _ _ (Or.inr rfl) (mul_ne_zero hr0 fun h => x0 (hx0.mp h))
      · rw [mul_comm]
        exact inf _ _ (Or.inl rfl) (mul_ne_zero hr0 x0)

/-- THE TWO ENERGIES ARE EQUAL when every radius is below `⊤` and every coefficient is positive and finite. -/
theorem kerEnergy_eq (X : Fin 256 → Fin 3 → EReal) (R Q : Fin 256 → EReal) (T G : Fin 256 → Fin 256 → Fin 5 → Fin 5 → EReal)
    (hR : ∀ i, R i < ⊤) (hG : ∀ i j p q, 0 < G i j p q ∧ G i j p q < ⊤) : kerEnergy X R Q T G = refEnergy X R Q T G := by
  have e : (fun i => rejoin (R i)) = R := funext fun i => rejoin_of_lt (hR i)
  unfold kerEnergy refEnergy
  rw [e]
  refine congrArg _ (Finset.sum_congr rfl fun i _ => Finset.sum_congr rfl fun j _ => ?_)
  by_cases h : Near X i j
  · rw [if_pos h, if_pos h, kerC6_eq _ _ _ _ _ (hG i j)]
    refine congrArg (· * smooth (dist X i j)) ?_
    have hd := dist2_nonneg X i j
    rcases moments_rejoin Q i j with hq | ⟨hk, hr⟩
    · rw [hq, kerPair_eq _ _ hd, dist]
    · rw [kerPair_infinite _ hk hd, dist, ← kerPair_eq _ _ hd, kerPair_infinite _ hr hd]
  · rw [if_neg h, if_neg h]

end Cert.Energy

end
-- ==== Proof.OneHot.lean ====
/- The two one-hot matrices of the body read at an index, and the sums they pick entries with. -/
module

public import proofs.«01_k».proof.Proof.Body
public import proofs.«01_k».proof.Proof.Model

@[expose] public section

set_option maxRecDepth 16384

noncomputable section

namespace Cert.Energy

open Idealize.ShloMosaic Cert.KernelIdeal Cert.KernelIdeal.Gen

/-- A comparison's bit, widened and read as a float, is 1 or 0. -/
theorem sitofp_bit (P : Prop) [Decidable P] :
    (FloatOps.sitofp .f32 (BitVec.setWidth 32 (BitVec.ofBool (decide P))) : Ideal .f32) = if P then 1 else 0 := by
  by_cases h : P
  · rw [decide_eq_true h, if_pos h]
    show (((BitVec.setWidth 32 (BitVec.ofBool true)).toInt : ℝ) : EReal) = 1
    rw [show (BitVec.setWidth 32 (BitVec.ofBool true)).toInt = 1 by decide]
    norm_num
  · rw [decide_eq_false h, if_neg h]
    show (((BitVec.setWidth 32 (BitVec.ofBool false)).toInt : ℝ) : EReal) = 0
    rw [show (BitVec.setWidth 32 (BitVec.ofBool false)).toInt = 0 by decide]
    norm_num

/-- Two small numbers are the same word exactly when they are equal. -/
theorem cmpi_small (a b : ℕ) (ha : a < 256) (hb : b < 256) :
    IntOp.cmpi .eq (BitVec.ofNat 32 a) (BitVec.ofNat 32 b) = BitVec.ofBool (decide (a = b)) := by
  have e : (BitVec.ofNat 32 a == BitVec.ofNat 32 b) = decide (a = b) := by
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      exact this
    · rintro rfl; rfl
  exact congrArg BitVec.ofBool e

/-- The low seven bits of a number below 256. -/
theorem low_bits (u : Fin 256) : IntOp.andi (BitVec.ofNat 32 u.val) 127#32 = BitVec.ofNat 32 (u.val % 128) := by
  revert u; decide +kernel

/-- A number below 192, with 96 taken away where it fits. -/
theorem folded (u : Fin 192) : Scalar.select (IntOp.cmpi .sge (BitVec.ofNat 32 u.val) 96#32)
    (IntOp.subi (BitVec.ofNat 32 u.val) 96#32) (BitVec.ofNat 32 u.val) = BitVec.ofNat 32 (u.val % 96) := by
  revert u; decide +kernel

/-- The one-hot matrix of the second atoms: column `j` has a 1 at `z j` and at `128 + z j`. -/
theorem cols_at (x0 : Vec Ideal S1x1x256 .i32) (z : Fin 256 → Fin 95) (h0 : ∀ j, x0 (ix3 0 0 j) = BitVec.ofNat 32 (z j).val)
    (u j : Fin 256) : (k0_pay1 (F := Ideal) (View.ld x0 r0_0) : S256x256.Idx → EReal) (ix2 u j) = if u.val % 128 = (z j).val then 1 else 0 := by
  pointwise [k0_pay1]
  rw [h0, low_bits, cmpi_small _ _ (by omega) (by omega)]
  exact sitofp_bit _

/-- The one-hot matrix of the first atoms: row `i` has a 1 at `z i` and at `96 + z i`. -/
theorem rows_at (x1 : Vec Ideal S1x256x1 .i32) (z : Fin 256 → Fin 95) (h1 : ∀ i, x1 (ix3 0 i 0) = BitVec.ofNat 32 (z i).val)
    (i : Fin 256) (u : Fin 192) : (k0_pay2 (F := Ideal) (View.ld x1 r0_1) : S256x192.Idx → EReal) (ix2 i u) = if u.val % 96 = (z i).val then 1 else 0 := by
  pointwise [k0_pay2]
  rw [h1, folded, cmpi_small _ _ (by omega) (by omega)]
  exact sitofp_bit _

/-- A sum against indicators of one place is the entry there. -/
theorem sum_pick {n : ℕ} (f : Fin n → EReal) (p : Fin n → Prop) [DecidablePred p] (a : Fin n) (hp : ∀ u, p u ↔ u = a) :
    ∑ u, f u * (if p u then 1 else 0) = f a := by
  rw [Finset.sum_eq_single a]
  · rw [if_pos ((hp a).mpr rfl), mul_one]
  · intro u _ h
    rw [if_neg fun h' => h ((hp u).mp h'), mul_zero]
  · intro h
    exact absurd (Finset.mem_univ _) h

/-- A sum against indicators of two places is the sum of the two entries. -/
theorem sum_pick_two {n : ℕ} (f : Fin n → EReal) (p : Fin n → Prop) [DecidablePred p] (a b : Fin n) (hab : a ≠ b)
    (hp : ∀ u, p u ↔ u = a ∨ u = b) : ∑ u, f u * (if p u then 1 else 0) = f a + f b := by
  rw [← Finset.sum_pair hab]
  rw [← Finset.sum_subset (Finset.subset_univ ({a, b} : Finset (Fin n)))]
  · refine Finset.sum_congr rfl fun u hu => ?_
    rw [if_pos ((hp u).mpr (by simpa using hu)), mul_one]
  · intro u _ hu
    rw [if_neg fun h => hu (by simpa using (hp u).mp h), mul_zero]

/-- THE TWO-SIDED LOOK-UP at `(i, j)`: where the slice holds `t` at `(z i, z j)` and what is left of it 96 rows below, the
    value is `t` rejoined. -/
theorem lookup_at (x0 : Vec Ideal S1x1x256 .i32) (x1 : Vec Ideal S1x256x1 .i32) (z : Fin 256 → Fin 95)
    (h0 : ∀ j, x0 (ix3 0 0 j) = BitVec.ofNat 32 (z j).val) (h1 : ∀ i, x1 (ix3 0 i 0) = BitVec.ofNat 32 (z i).val)
    (s : Vec Ideal S192x128 .bf16) (i j : Fin 256) (t : EReal)
    (hi : (s : S192x128.Idx → EReal) (ix2 ⟨(z i).val, by omega⟩ ⟨(z j).val, by omega⟩) = t)
    (lo : (s : S192x128.Idx → EReal) (ix2 ⟨96 + (z i).val, by omega⟩ ⟨(z j).val, by omega⟩) = t - t) :
    (lookup (k0_pay2 (F := Ideal) (View.ld x1 r0_1)) (k0_pay1 (F := Ideal) (View.ld x0 r0_0)) s : S256x256.Idx → EReal) (ix2 i j) = rejoin t := by
  have hrow : ∀ v : Fin 128, (∑ u : Fin 192, (k0_pay2 (F := Ideal) (View.ld x1 r0_1) : S256x192.Idx → EReal) (ix2 i u) * (s : S192x128.Idx → EReal) (ix2 u v))
      = (s : S192x128.Idx → EReal) (ix2 ⟨(z i).val, by omega⟩ v) + (s : S192x128.Idx → EReal) (ix2 ⟨96 + (z i).val, by omega⟩ v) := by
    intro v
    refine Eq.trans (Finset.sum_congr rfl fun u _ => ?_) (sum_pick_two (fun u => (s : S192x128.Idx → EReal) (ix2 u v))
      (fun u => u.val % 96 = (z i).val) ⟨(z i).val, by omega⟩ ⟨96 + (z i).val, by omega⟩ (fun h => by have := congrArg Fin.val h; dsimp only at this; omega) ?_)
    · rw [rows_at x1 z h1, mul_comm]
    · intro u
      rw [Fin.ext_iff, Fin.ext_iff]
      dsimp only
      omega
  pointwise [lookup]
  simp only [hrow]
  have hcol : ∀ (f : Fin 128 → EReal) (o : ℕ) (ho : o = 0 ∨ o = 128), (∑ v : Fin 128, f v
      * (k0_pay1 (F := Ideal) (View.ld x0 r0_0) : S256x256.Idx → EReal) (ix2 ⟨o + v.val, by omega⟩ j)) = f ⟨(z j).val, by omega⟩ := by
    intro f o ho
    refine Eq.trans (Finset.sum_congr rfl fun v _ => ?_) (sum_pick f (fun v => v.val = (z j).val) ⟨(z j).val, by omega⟩ ?_)
    · rw [cols_at x0 z h0]
      congr 1
      refine if_congr ?_ rfl rfl
      dsimp only
      omega
    · intro u
      rw [Fin.ext_iff]
  have h := congrArg₂ (· + ·) (hcol (fun v => (s : S192x128.Idx → EReal) (ix2 ⟨(z i).val, by omega⟩ v) + (s : S192x128.Idx → EReal) (ix2 ⟨96 + (z i).val, by omega⟩ v)) 0 (Or.inl rfl))
    (hcol (fun v => ((s : S192x128.Idx → EReal) (ix2 ⟨(z i).val, by omega⟩ v) + (s : S192x128.Idx → EReal) (ix2 ⟨96 + (z i).val, by omega⟩ v))
      - ((s : S192x128.Idx → EReal) (ix2 ⟨(z i).val, by omega⟩ v) + (s : S192x128.Idx → EReal) (ix2 ⟨96 + (z i).val, by omega⟩ v))) 128 (Or.inr rfl))
  simp only [hi, lo, Nat.zero_add] at h
  refine h.trans ?_
  exact rejoin_rejoin t

end Cert.Energy

end
-- ==== Proof.Block.lean ====
/- What one run of the body stores, read at an index: the energy of one system as `kerEnergy` writes it, when the five
   input blocks hold the system's atoms and the tables as the host lays them out. -/
module

public import proofs.«01_k».proof.Proof.OneHot

@[expose] public section

set_option maxRecDepth 16384

noncomputable section

namespace Cert.Energy

open Idealize.ShloMosaic Cert.KernelIdeal Cert.KernelIdeal.Gen

/-- A choice by the kernel's mask bit, as a choice by a proposition. -/
theorem select_mask {α : Type} (i j : Fin 256) (P : Prop) [Decidable P] (a b : α) (Q : Prop) [Decidable Q] (hQ : Q ↔ i ≠ j ∧ P) :
    Scalar.select (IntOp.andi (IntOp.xori (IntOp.cmpi .eq (BitVec.ofNat 32 i.val) (BitVec.ofNat 32 j.val)) 1#1)
      (BitVec.ofBool (decide P))) a b = if Q then a else b := by
  rw [cmpi_small _ _ (by omega) (by omega)]
  by_cases h : i = j <;> by_cases hP : P
  · rw [if_neg fun q => (hQ.mp q).1 h, decide_eq_true (congrArg Fin.val h), decide_eq_true hP]; rfl
  · rw [if_neg fun q => (hQ.mp q).1 h, decide_eq_true (congrArg Fin.val h), decide_eq_false hP]; rfl
  · rw [if_pos (hQ.mpr ⟨h, hP⟩), decide_eq_false (fun e => h (Fin.ext e)), decide_eq_true hP]; rfl
  · rw [if_neg fun q => hP (hQ.mp q).2, decide_eq_false (fun e => h (Fin.ext e)), decide_eq_false hP]; rfl

/-- What the five input blocks of one system hold: the elements along columns and along rows, the coordinates, the stacked
    tables of coefficients `G` and of reference coordination numbers `T` with what is left of them 96 rows below, and the two
    rows of radii `R` and moments `Q` with what is left of them 128 columns further. -/
structure Holds (x0 : Vec Ideal S1x1x256 .i32) (x1 : Vec Ideal S1x256x1 .i32) (x2 : Vec Ideal S1x8x256 .f32)
    (x3 : Vec Ideal S192x6400 .bf16) (x4 : Vec Ideal S8x256 .bf16) (z : Fin 256 → Fin 95) (X : Fin 256 → Fin 3 → EReal)
    (R Q : Fin 95 → EReal) (T G : Fin 95 → Fin 95 → Fin 5 → Fin 5 → EReal) : Prop where
  cols : ∀ j, x0 (ix3 0 0 j) = BitVec.ofNat 32 (z j).val
  rows : ∀ i, x1 (ix3 0 i 0) = BitVec.ofNat 32 (z i).val
  coord0 : ∀ i, (x2 : S1x8x256.Idx → EReal) (ix3 0 0 i) = X i 0
  coord1 : ∀ i, (x2 : S1x8x256.Idx → EReal) (ix3 0 1 i) = X i 1
  coord2 : ∀ i, (x2 : S1x8x256.Idx → EReal) (ix3 0 2 i) = X i 2
  coeffHi : ∀ (n : Fin 25) (u v : Fin 95), (x3 : S192x6400.Idx → EReal) (ix2 ⟨u.val, by omega⟩ ⟨128 * n.val + v.val, by omega⟩)
    = G u v (stateRow n.val) (stateCol n.val)
  coeffLo : ∀ (n : Fin 25) (u v : Fin 95), (x3 : S192x6400.Idx → EReal) (ix2 ⟨96 + u.val, by omega⟩ ⟨128 * n.val + v.val, by omega⟩)
    = G u v (stateRow n.val) (stateCol n.val) - G u v (stateRow n.val) (stateCol n.val)
  stateHi : ∀ (n : Fin 25) (u v : Fin 95), (x3 : S192x6400.Idx → EReal) (ix2 ⟨u.val, by omega⟩ ⟨128 * (25 + n.val) + v.val, by omega⟩)
    = T u v (stateRow n.val) (stateCol n.val)
  stateLo : ∀ (n : Fin 25) (u v : Fin 95), (x3 : S192x6400.Idx → EReal) (ix2 ⟨96 + u.val, by omega⟩ ⟨128 * (25 + n.val) + v.val, by omega⟩)
    = T u v (stateRow n.val) (stateCol n.val) - T u v (stateRow n.val) (stateCol n.val)
  radHi : ∀ u : Fin 95, (x4 : S8x256.Idx → EReal) (ix2 0 ⟨u.val, by omega⟩) = R u
  radLo : ∀ u : Fin 95, (x4 : S8x256.Idx → EReal) (ix2 0 ⟨128 + u.val, by omega⟩) = R u - R u
  momHi : ∀ u : Fin 95, (x4 : S8x256.Idx → EReal) (ix2 1 ⟨u.val, by omega⟩) = Q u
  momLo : ∀ u : Fin 95, (x4 : S8x256.Idx → EReal) (ix2 1 ⟨128 + u.val, by omega⟩) = Q u - Q u

variable {x0 : Vec Ideal S1x1x256 .i32} {x1 : Vec Ideal S1x256x1 .i32} {x2 : Vec Ideal S1x8x256 .f32}
    {x3 : Vec Ideal S192x6400 .bf16} {x4 : Vec Ideal S8x256 .bf16} {z : Fin 256 → Fin 95} {X : Fin 256 → Fin 3 → EReal}
    {R Q : Fin 95 → EReal} {T G : Fin 95 → Fin 95 → Fin 5 → Fin 5 → EReal}

/-- A row of the small table against the one-hot columns: the entry of `z j`, plus what is left of it. -/
theorem row_pick (h : Holds x0 x1 x2 x3 x4 z X R Q T G) (f : Fin 256 → EReal) (j : Fin 256) :
    ∑ u : Fin 256, f u * (k0_pay1 (F := Ideal) (View.ld x0 r0_0) : S256x256.Idx → EReal) (ix2 u j)
      = f ⟨(z j).val, by omega⟩ + f ⟨128 + (z j).val, by omega⟩ := by
  refine Eq.trans (Finset.sum_congr rfl fun u _ => ?_) (sum_pick_two f (fun u => u.val % 128 = (z j).val) ⟨(z j).val, by omega⟩
    ⟨128 + (z j).val, by omega⟩ (fun e => by have := congrArg Fin.val e; dsimp only at this; omega) ?_)
  · rw [cols_at x0 z h.cols]
  · intro u
    rw [Fin.ext_iff, Fin.ext_iff]
    dsimp only
    omega

/-- The radii along columns. -/
theorem rad_row (h : Holds x0 x1 x2 x3 x4 z X R Q T G) (i j : Fin 256) :
    (k0_pay4 (F := Ideal) (View.ld x0 r0_0) (View.ld x4 r0_2) : S256x256.Idx → EReal) (ix2 i j) = rejoin (R (z j)) := by
  pointwise [k0_pay4, k0_pay3]
  refine (row_pick h (fun u => (x4 : S8x256.Idx → EReal) (ix2 0 u)) j).trans ?_
  exact congrArg₂ (fun a b : EReal => a + b) (h.radHi (z j)) (h.radLo (z j))

/-- The radii along rows. -/
theorem rad_col (h : Holds x0 x1 x2 x3 x4 z X R Q T G) (i j : Fin 256) :
    (k0_pay6 (F := Ideal) (View.ld x0 r0_0) (View.ld x4 r0_2) : S256x256.Idx → EReal) (ix2 i j) = rejoin (R (z i)) := by
  pointwise [k0_pay6, k0_pay4, k0_pay3]
  refine (row_pick h (fun u => (x4 : S8x256.Idx → EReal) (ix2 0 u)) i).trans ?_
  exact congrArg₂ (fun a b : EReal => a + b) (h.radHi (z i)) (h.radLo (z i))

/-- The moments along columns. -/
theorem mom_row (h : Holds x0 x1 x2 x3 x4 z X R Q T G) (i j : Fin 256) :
    (k0_pay103 (F := Ideal) x0 x1 x2 x3 x4 : S256x256.Idx → EReal) (ix2 i j) = rejoin (Q (z j)) := by
  pointwise [k0_pay103, k0_pay5, k0_pay3]
  refine (row_pick h (fun u => (x4 : S8x256.Idx → EReal) (ix2 1 u)) j).trans ?_
  exact congrArg₂ (fun a b : EReal => a + b) (h.momHi (z j)) (h.momLo (z j))

/-- The moments along rows. -/
theorem mom_col (h : Holds x0 x1 x2 x3 x4 z X R Q T G) (i j : Fin 256) :
    (k0_pay104 (F := Ideal) x0 x1 x2 x3 x4 : S256x256.Idx → EReal) (ix2 i j) = rejoin (Q (z i)) := by
  pointwise [k0_pay104, k0_pay7, k0_pay5, k0_pay3]
  refine (row_pick h (fun u => (x4 : S8x256.Idx → EReal) (ix2 1 u)) i).trans ?_
  exact congrArg₂ (fun a b : EReal => a + b) (h.momHi (z i)) (h.momLo (z i))

/-- The squared distances. -/
theorem dist2_at (h : Holds x0 x1 x2 x3 x4 z X R Q T G) (i j : Fin 256) :
    (k0_pay106 (F := Ideal) x0 x1 x2 x3 x4 : S256x256.Idx → EReal) (ix2 i j) = dist2 X i j := by
  pointwise [k0_pay106, k0_pay105, k0_pay10, k0_pay8, k0_pay9]
  rw [cmpi_small _ _ (by omega) (by omega)]
  erw [h.coord0 i, h.coord0 j, h.coord1 i, h.coord1 j, h.coord2 i, h.coord2 j]
  unfold dist2
  by_cases e : i = j
  · rw [if_pos e, decide_eq_true (congrArg Fin.val e)]
    first | rfl | exact Ideal.ofBits_one_f32
  · rw [if_neg e, decide_eq_false fun e' => e (Fin.ext e'), Fin.sum_univ_three]
    rfl

/-- The distances. -/
theorem dist_at (h : Holds x0 x1 x2 x3 x4 z X R Q T G) (i j : Fin 256) :
    (k0_pay11 (F := Ideal) (k0_pay105 x0 x1 x2 x3 x4) (View.ld x2 r0_4) (View.ld x2 r0_5) : S256x256.Idx → EReal) (ix2 i j) = dist X i j :=
  congrArg Ideal.sqrt (dist2_at h i j)

/-- The coordination numbers, the same along each row. -/
theorem cn_at (h : Holds x0 x1 x2 x3 x4 z X R Q T G) (i j : Fin 256) :
    (k0_pay108 (F := Ideal) x0 x1 x2 x3 x4 : S256x256.Idx → EReal) (ix2 i j) = coordination X (fun i => rejoin (R (z i))) i := by
  pointwise [k0_pay108, k0_pay107, k0_pay14, k0_pay13, k0_pay12, k0_pay9]
  rw [← coordination_flip]
  refine Finset.sum_congr rfl fun x _ => ?_
  erw [dist_at h x i, rad_col h x i, rad_row h x i]
  refine (select_mask x i _ _ _ (Near X x i) Iff.rfl).trans ?_
  rfl

/-- Slice `n` of the stacked tables at an index. -/
theorem slice_at (x3 : Vec Ideal S192x6400 .bf16) (n : ℕ) (hn : n < 50) (u : Fin 192) (v : Fin 128) :
    (slice x3 n : S192x128.Idx → EReal) (ix2 u v) = (x3 : S192x6400.Idx → EReal) (ix2 u ⟨128 * n + v.val, by omega⟩) := by
  unfold slice
  rw [dif_pos hn]
  show (x3 : S192x6400.Idx → EReal) _ = _
  congr 1
  funext a
  match a with
  | ⟨0, _⟩ => exact Fin.ext ((congrArg (0 + ·) (Nat.one_mul _)).trans (Nat.zero_add _))
  | ⟨1, _⟩ => exact Fin.ext (congrArg (128 * n + ·) (Nat.one_mul _))

/-- The coefficient of a state pair. -/
theorem coeff_at (h : Holds x0 x1 x2 x3 x4 z X R Q T G) (n : ℕ) (hn : n < 25) (i j : Fin 256) :
    (coeffs (k0_pay102 (F := Ideal) x0 x1 x2 x3 x4) (k0_pay101 (F := Ideal) x0 x1 x2 x3 x4) x3 n : S256x256.Idx → EReal) (ix2 i j)
      = rejoin (G (z i) (z j) (stateRow n) (stateCol n)) := by
  refine lookup_at x0 x1 z h.cols h.rows (slice x3 n) i j _ ?_ ?_
  · rw [slice_at x3 n (by omega)]
    exact h.coeffHi ⟨n, hn⟩ (z i) (z j)
  · rw [slice_at x3 n (by omega)]
    exact h.coeffLo ⟨n, hn⟩ (z i) (z j)

/-- The weight of a state: the Gaussian of the coordination number of the first atom. -/
theorem weight_at (h : Holds x0 x1 x2 x3 x4 z X R Q T G) (n : ℕ) (hn : n < 25) (i j : Fin 256) :
    (weights (k0_pay102 (F := Ideal) x0 x1 x2 x3 x4) (k0_pay101 (F := Ideal) x0 x1 x2 x3 x4) (k0_pay108 (F := Ideal) x0 x1 x2 x3 x4) x3 n
        : S256x256.Idx → EReal) (ix2 i j)
      = gauss (coordination X (fun i => rejoin (R (z i))) i) (rejoin (T (z i) (z j) (stateRow n) (stateCol n))) := by
  have e : (lookup (k0_pay102 (F := Ideal) x0 x1 x2 x3 x4) (k0_pay101 (F := Ideal) x0 x1 x2 x3 x4) (slice x3 (25 + n)) : S256x256.Idx → EReal) (ix2 i j)
      = rejoin (T (z i) (z j) (stateRow n) (stateCol n)) := by
    refine lookup_at x0 x1 z h.cols h.rows (slice x3 (25 + n)) i j _ ?_ ?_
    · rw [slice_at x3 (25 + n) (by omega)]
      exact h.stateHi ⟨n, hn⟩ (z i) (z j)
    · rw [slice_at x3 (25 + n) (by omega)]
      exact h.stateLo ⟨n, hn⟩ (z i) (z j)
  exact congrArg₂ gauss (cn_at h i j) e

/-- The swapped number of a state pair is again below 25. -/
theorem swapped_lt (n : ℕ) (hn : n < 25) : swapped n < 25 := by unfold swapped; omega

/-- Swapping makes the second state the first. -/
theorem stateRow_swapped (n : ℕ) (hn : n < 25) : stateRow (swapped n) = stateCol n := by
  interval_cases n <;> rfl

/-- Swapping makes the first state the second. -/
theorem stateCol_swapped (n : ℕ) (hn : n < 25) : stateCol (swapped n) = stateRow n := by
  interval_cases n <;> rfl

/-- The weight of a state pair. -/
theorem both_at (h : Holds x0 x1 x2 x3 x4 z X R Q T G) (n : ℕ) (hn : n < 25) (i j : Fin 256) :
    (both (weights (k0_pay102 (F := Ideal) x0 x1 x2 x3 x4) (k0_pay101 (F := Ideal) x0 x1 x2 x3 x4) (k0_pay108 (F := Ideal) x0 x1 x2 x3 x4) x3) n
        : S256x256.Idx → EReal) (ix2 i j)
      = kerWeight (coordination X fun i => rejoin (R (z i))) (fun i j => T (z i) (z j)) i j n := by
  pointwise [both, flip]
  unfold kerWeight
  refine congrArg₂ (fun a b : EReal => a * b) (weight_at h n hn i j) ((weight_at h (swapped n) (swapped_lt n hn) j i).trans ?_)
  rw [stateRow_swapped n hn, stateCol_swapped n hn]

/-- The running sum of the weights at an index. -/
theorem denSum_at (W : ℕ → Pairs Ideal) (w : ℕ → EReal) (i j : Fin 256) (n : ℕ)
    (hw : ∀ k < n, (both W k : S256x256.Idx → EReal) (ix2 i j) = w k) :
    (denSum W n : S256x256.Idx → EReal) (ix2 i j) = ∑ k ∈ Finset.range n, w k := by
  induction n with
  | zero => exact Ideal.ofBits_zero_f32
  | succ n ih =>
    rw [Finset.sum_range_succ]
    exact congrArg₂ (fun a b : EReal => a + b) (ih fun k hk => hw k (by omega)) (hw n (by omega))

/-- The running sum of weight times coefficient at an index. -/
theorem numSum_at (W G : ℕ → Pairs Ideal) (w g : ℕ → EReal) (i j : Fin 256) (n : ℕ)
    (hw : ∀ k < n, (both W k : S256x256.Idx → EReal) (ix2 i j) = w k) (hg : ∀ k < n, (G k : S256x256.Idx → EReal) (ix2 i j) = g k) :
    (numSum W G n : S256x256.Idx → EReal) (ix2 i j) = ∑ k ∈ Finset.range n, w k * g k := by
  induction n with
  | zero => exact Ideal.ofBits_zero_f32
  | succ n ih =>
    rw [Finset.sum_range_succ]
    exact congrArg₂ (fun a b : EReal => a + b) (ih (fun k hk => hw k (by omega)) fun k hk => hg k (by omega))
      (congrArg₂ (fun a b : EReal => a * b) (hw n (by omega)) (hg n (by omega)))

/-- The interpolated coefficients. -/
theorem c6_at (h : Holds x0 x1 x2 x3 x4 z X R Q T G) (i j : Fin 256) :
    (c6of (weights (k0_pay102 (F := Ideal) x0 x1 x2 x3 x4) (k0_pay101 (F := Ideal) x0 x1 x2 x3 x4) (k0_pay108 (F := Ideal) x0 x1 x2 x3 x4) x3)
      (coeffs (k0_pay102 (F := Ideal) x0 x1 x2 x3 x4) (k0_pay101 (F := Ideal) x0 x1 x2 x3 x4) x3) : S256x256.Idx → EReal) (ix2 i j)
      = kerC6 (coordination X fun i => rejoin (R (z i))) (fun i j => T (z i) (z j)) (fun i j => G (z i) (z j)) i j := by
  unfold kerC6
  exact congrArg₂ Ideal.div
    (numSum_at _ _ _ (fun n => rejoin (G (z i) (z j) (stateRow n) (stateCol n))) i j 25 (fun k hk => both_at h k hk i j) fun k hk => coeff_at h k hk i j)
    (congrArg (fun a : EReal => a + Ideal.ofBits .f32 0x2B8CBCCC#32) (denSum_at _ _ i j 25 fun k hk => both_at h k hk i j))

/-- The square of the damping radius from the two moments. -/
theorem f2_at (a b : Pairs Ideal) (i j : Fin 256) : (k0_pay94 (F := Ideal) a b : S256x256.Idx → EReal) (ix2 i j)
    = radius (Ideal.ofBits .f32 0x40400000#32 * (b : S256x256.Idx → EReal) (ix2 i j) * (a : S256x256.Idx → EReal) (ix2 i j))
      * radius (Ideal.ofBits .f32 0x40400000#32 * (b : S256x256.Idx → EReal) (ix2 i j) * (a : S256x256.Idx → EReal) (ix2 i j)) := by
  pointwise [k0_pay94, k0_pay92]
  rfl

/-- THE STORED BLOCK: every entry is the energy of the system. -/
theorem stored_at (h : Holds x0 x1 x2 x3 x4 z X R Q T G) (l : Fin 128) :
    (stored x0 x1 x2 x3 x4 : S1x1x128.Idx → EReal) (ix3 0 0 l)
      = kerEnergy X (fun i => R (z i)) (fun i => Q (z i)) (fun i j => T (z i) (z j)) (fun i j => G (z i) (z j)) := by
  unfold stored
  pointwise [finish, k0_pay100, k0_pay92]
  unfold kerEnergy
  refine congrArg (fun a : EReal => Ideal.ofBits .f32 0xBF000000#32 * a) (Finset.sum_congr rfl fun i _ => Finset.sum_congr rfl fun j _ => ?_)
  pointwise [k0_pay95, k0_pay96, k0_pay97, k0_pay98, k0_pay12, k0_pay9]
  erw [c6_at h i j, dist2_at h i j, dist_at h i j, f2_at, mom_row h i j, mom_col h i j]
  refine (select_mask i j _ _ _ (Near X i j) Iff.rfl).trans ?_
  rfl

end Cert.Energy

end
-- ==== Proof.Tables.lean ====
/- What the host operations before the region leave in the arrays the kernel reads: the elements in two shapes, the
   coordinates with the axes exchanged, the stacked tables and the small table; first each array as a function of the
   arguments, then its entries. -/
module

public import proofs.«01_k».proof.Proof.Block

@[expose] public section

set_option maxRecDepth 16384

noncomputable section

namespace Cert.Energy

open Idealize.ShloMosaic Idealize.ShloMosaic.TcCoe Cert.KernelIdeal Cert.KernelIdeal.Gen

variable {F : FTy → Type} [FloatOps F]

/-- The padding value. -/
def padding : FVec F S_ .f32 := sitofp .f32 (constantI S_ 32 0#32)

/-- The two tables side by side, the states in front of the second element, padded with zeros to 96 rows and 128 columns
    a state, and laid out as 96 rows. -/
def sideBySide (a4 a5 : FVec F S95x95x5x5 .f32) : FVec F S96x6400 .f32 :=
  shapeCast S96x6400 (pad S96x50x128 ![0, 0, 0] ![1, 0, 33] ![0, 0, 0]
    (transpose S95x50x95 [0, 2, 1] (concatenate S95x95x50 2
      [⟨S95x95x25, shapeCast S95x95x25 a4 shapeCasts_S95x95x5x5_S95x95x25⟩, ⟨S95x95x25, shapeCast S95x95x25 a5 shapeCasts_S95x95x5x5_S95x95x25⟩]
      concatenates_S95x95x25_S95x95x25_S95x95x50_d2) transposes_S95x95x50_S95x50x95_0_2_1)
    padding pads_S95x50x95_S96x50x128_010_000_0330 h_S_) shapeCasts_S96x50x128_S96x6400

/-- The rounded part of an array. -/
def rounded {s : Shape} (x : FVec F s .f32) : FVec F s .f32 := extf .f32 (truncf .bf16 x bitsLt_bf16_f32) bitsLt_bf16_f32

/-- The stacked tables: the rounded parts above what is left of them. -/
def stacked (a4 a5 : FVec F S95x95x5x5 .f32) : FVec F S192x6400 .bf16 :=
  truncf .bf16 (concatenate S192x6400 0 [⟨S96x6400, rounded (sideBySide a4 a5)⟩,
    ⟨S96x6400, subf (sideBySide a4 a5) (rounded (sideBySide a4 a5))⟩] concatenates_S96x6400_S96x6400_S192x6400_d0) bitsLt_bf16_f32

/-- One row of the small table: the rounded parts of 95 numbers, padded to 128, then what is left of them, padded. -/
def smallRow (a : FVec F S95 .f32) : FVec F S256 .f32 :=
  concatenate S256 0 [⟨S128, pad S128 ![0] ![33] ![0] (rounded a) padding pads_S95_S128_0330 h_S_⟩,
    ⟨S128, pad S128 ![0] ![33] ![0] (subf a (rounded a)) padding pads_S95_S128_0330 h_S_⟩] concatenates_S128_S128_S256_d0

/-- The small table: radii, then moments, padded to eight rows. -/
def small (a2 a3 : FVec F S95 .f32) : FVec F S8x256 .bf16 :=
  truncf .bf16 (pad S8x256 ![0, 0] ![6, 0] ![0, 0] (concatenate S2x256 0
    [⟨S1x256, broadcastInDim S1x256 ![1] bcast_S256_S1x256_1 (smallRow a2)⟩, ⟨S1x256, broadcastInDim S1x256 ![1] bcast_S256_S1x256_1 (smallRow a3)⟩]
    concatenates_S1x256_S1x256_S2x256_d0) padding pads_S2x256_S8x256_060_000 h_S_) bitsLt_bf16_f32

/-- The coordinates with the axes exchanged, padded to eight rows a system. -/
def coordinates (a0 : FVec F S8x256x3 .f32) : FVec F S8x8x256 .f32 :=
  pad S8x8x256 ![0, 0, 0] ![0, 5, 0] ![0, 0, 0] (transpose S8x3x256 [0, 2, 1] a0 transposes_S8x256x3_S8x3x256_0_2_1) padding
    pads_S8x3x256_S8x8x256_000_050_000 h_S_

section
variable (m : (ℓ : Loc nD τ sig) → Buf (Elt F) ℓ) (c : Dev nD)

/-- The five arrays the region reads, as the host operations before it leave them: elements along columns, elements along
    rows, coordinates, stacked tables, small table. -/
theorem entry_arrays :
    V m c main_v28 = shapeCast S8x1x256 (m ((c : Thread nD τ).loc main_arg1)) shapeCasts_S8x256_S8x1x256
    ∧ V m c main_v29 = shapeCast S8x256x1 (m ((c : Thread nD τ).loc main_arg1)) shapeCasts_S8x256_S8x256x1
    ∧ V m c main_v31 = coordinates (m ((c : Thread nD τ).loc main_arg0))
    ∧ V m c main_v10 = stacked (m ((c : Thread nD τ).loc main_arg4)) (m ((c : Thread nD τ).loc main_arg5))
    ∧ V m c main_v27 = small (m ((c : Thread nD τ).loc main_arg2)) (m ((c : Thread nD τ).loc main_arg3)) := by
  simp only [V, V0, hostOps0, hostOps0_1, hostOps0_2, hostOps0_3, hostOps0_4, hostOps0_5, hostOps0_6, hostOps0_7, hostOps0_8,
    hostOps0_9, hostOps0_10, hostOps0_11, hostOps0_12, hostOps0_13, List.flatten_cons, List.flatten_nil, List.append_nil,
    List.cons_append, List.nil_append]
  refine ⟨?_, ?_, ?_, ?_, ?_⟩
  all_goals
    after_results
    rfl
end

/-- The element of atom `j` of system `b` in the first array. -/
theorem cols_entry (a1 : Vec Ideal S8x256 .i32) (b : Fin 8) (j : Fin 256) :
    (shapeCast S8x1x256 a1 shapeCasts_S8x256_S8x1x256) (ix3 b 0 j) = a1 (ix2 b j) := by
  pointwise

/-- The element of atom `j` of system `b` in the second array. -/
theorem rows_entry (a1 : Vec Ideal S8x256 .i32) (b : Fin 8) (j : Fin 256) :
    (shapeCast S8x256x1 a1 shapeCasts_S8x256_S8x256x1) (ix3 b j 0) = a1 (ix2 b j) := by
  pointwise

/-- The coordinate `a` of atom `i` of system `b` in the third array. -/
theorem coord_entry (a0 : FVec Ideal S8x256x3 .f32) (b : Fin 8) (i : Fin 256) (a : Fin 3) :
    (coordinates a0 : S8x8x256.Idx → EReal) (ix3 b ⟨a.val, by omega⟩ i) = (a0 : S8x256x3.Idx → EReal) (ix3 b i a) := by
  pointwise [coordinates]

/-- The small table's radii. -/
theorem small_radHi (a2 a3 : FVec Ideal S95 .f32) (u : Fin 95) :
    (small a2 a3 : S8x256.Idx → EReal) (ix2 0 ⟨u.val, by omega⟩) = (a2 : S95.Idx → EReal) (ix1 u) := by
  pointwise [small, smallRow, rounded]
  rw [dif_pos (by omega), dif_pos (by omega)]

/-- What is left of the radii. -/
theorem small_radLo (a2 a3 : FVec Ideal S95 .f32) (u : Fin 95) :
    (small a2 a3 : S8x256.Idx → EReal) (ix2 0 ⟨128 + u.val, by omega⟩) = (a2 : S95.Idx → EReal) (ix1 u) - (a2 : S95.Idx → EReal) (ix1 u) := by
  pointwise [small, smallRow, rounded]
  rw [dif_pos (by omega)]

/-- The small table's moments. -/
theorem small_momHi (a2 a3 : FVec Ideal S95 .f32) (u : Fin 95) :
    (small a2 a3 : S8x256.Idx → EReal) (ix2 1 ⟨u.val, by omega⟩) = (a3 : S95.Idx → EReal) (ix1 u) := by
  pointwise [small, smallRow, rounded]
  rw [dif_pos (by omega), dif_pos (by omega)]

/-- What is left of the moments. -/
theorem small_momLo (a2 a3 : FVec Ideal S95 .f32) (u : Fin 95) :
    (small a2 a3 : S8x256.Idx → EReal) (ix2 1 ⟨128 + u.val, by omega⟩) = (a3 : S95.Idx → EReal) (ix1 u) - (a3 : S95.Idx → EReal) (ix1 u) := by
  pointwise [small, smallRow, rounded]
  rw [dif_pos (by omega)]

/-- A coefficient in the tables side by side. -/
theorem side_coeff (a4 a5 : FVec Ideal S95x95x5x5 .f32) (n : Fin 25) (u v : Fin 95) :
    (sideBySide a4 a5 : S96x6400.Idx → EReal) (ix2 ⟨u.val, by omega⟩ ⟨128 * n.val + v.val, by omega⟩)
      = (a4 : S95x95x5x5.Idx → EReal) (ix4 u v (stateRow n.val) (stateCol n.val)) := by
  pointwise [sideBySide]
  rw [dif_pos (by omega), dif_pos (by omega)]
  exact congrArg a4 (congr (congrArg₂ (ix4 u) (Fin.ext (by dsimp only; omega)) (Fin.ext (by dsimp only [stateRow]; omega)))
    (Fin.ext (by dsimp only [stateCol]; omega)))

/-- A reference coordination number in the tables side by side. -/
theorem side_state (a4 a5 : FVec Ideal S95x95x5x5 .f32) (n : Fin 25) (u v : Fin 95) :
    (sideBySide a4 a5 : S96x6400.Idx → EReal) (ix2 ⟨u.val, by omega⟩ ⟨128 * (25 + n.val) + v.val, by omega⟩)
      = (a5 : S95x95x5x5.Idx → EReal) (ix4 u v (stateRow n.val) (stateCol n.val)) := by
  pointwise [sideBySide]
  rw [dif_pos (by omega), dif_neg (by omega)]
  exact congrArg a5 (congr (congrArg₂ (ix4 u) (Fin.ext (by dsimp only; omega)) (Fin.ext (by dsimp only [stateRow]; omega)))
    (Fin.ext (by dsimp only [stateCol]; omega)))

/-- The upper half of the stacked tables. -/
theorem stacked_hi (a4 a5 : FVec Ideal S95x95x5x5 .f32) (u : Fin 95) (w : Fin 6400) :
    (stacked a4 a5 : S192x6400.Idx → EReal) (ix2 ⟨u.val, by omega⟩ w) = (sideBySide a4 a5 : S96x6400.Idx → EReal) (ix2 ⟨u.val, by omega⟩ w) := by
  pointwise [stacked, rounded]
  rw [dif_pos (by omega)]

/-- The lower half: what is left of the upper. -/
theorem stacked_lo (a4 a5 : FVec Ideal S95x95x5x5 .f32) (u : Fin 95) (w : Fin 6400) :
    (stacked a4 a5 : S192x6400.Idx → EReal) (ix2 ⟨96 + u.val, by omega⟩ w)
      = (sideBySide a4 a5 : S96x6400.Idx → EReal) (ix2 ⟨u.val, by omega⟩ w) - (sideBySide a4 a5 : S96x6400.Idx → EReal) (ix2 ⟨u.val, by omega⟩ w) := by
  pointwise [stacked, rounded]

end Cert.Energy

end
-- ==== Proof.KernelRun.lean ====
/- The kernel's run at the extended reals: the array the region writes holds, for every system, that system's energy as
   `kerEnergy` writes it, and the result of the program is that array's first column. -/
module

public import proofs.«01_k».proof.Proof.Tables
public import Idealize.ShloMosaic.Lib.Pipeline.ValueKit

@[expose] public section

set_option maxRecDepth 16384

noncomputable section

namespace Cert.Energy

open Idealize.ShloMosaic Idealize.ShloMosaic.TcCoe Idealize.SL.Sem Cert.KernelIdeal Cert.KernelIdeal.Gen

variable (m : (ℓ : Loc nD τ sig) → Buf (Elt Ideal) ℓ) (c : Dev nD)

/-- Where each window stands at grid point `t`. -/
theorem places : ∀ t : Fin grid0.N, win0_0.index t = ![t.val, 0, 0] ∧ win0_1.index t = ![t.val, 0, 0] ∧ win0_2.index t = ![t.val, 0, 0]
    ∧ win0_3.index t = ![0, 0] ∧ win0_4.index t = ![0, 0] ∧ win0_5.index t = ![t.val, 0, 0] := by
  decide +kernel

/-- The system a grid point works on. -/
def system (t : Fin grid0.N) : Fin 8 := ⟨t.val, by have := t.isLt; have := N_0; omega⟩

/-- The coordinates of the atoms of system `b`. -/
abbrev kerX (b : Fin 8) (i : Fin 256) (a : Fin 3) : EReal := (m ((c : Thread nD τ).loc main_arg0) : S8x256x3.Idx → EReal) (ix3 b i a)
/-- The table of radii. -/
abbrev kerR (u : Fin 95) : EReal := (m ((c : Thread nD τ).loc main_arg2) : S95.Idx → EReal) (ix1 u)
/-- The table of moments. -/
abbrev kerQ (u : Fin 95) : EReal := (m ((c : Thread nD τ).loc main_arg3) : S95.Idx → EReal) (ix1 u)
/-- The table of coefficients. -/
abbrev kerG (u v : Fin 95) (p q : Fin 5) : EReal := (m ((c : Thread nD τ).loc main_arg4) : S95x95x5x5.Idx → EReal) (ix4 u v p q)
/-- The table of reference coordination numbers. -/
abbrev kerT (u v : Fin 95) (p q : Fin 5) : EReal := (m ((c : Thread nD τ).loc main_arg5) : S95x95x5x5.Idx → EReal) (ix4 u v p q)

/-- In step `t` the first window holds the elements of the step's system, along a row. -/
theorem block_cols (t : Fin grid0.N) (j : Fin 256) : (iblk m c 0 t : S1x1x256.Idx → BitVec 32) (ix3 0 0 j)
    = (V m c main_v28 : S8x1x256.Idx → BitVec 32) (ix3 (system t) 0 j) := by
  blk_ext [iblk, system, (places t).1]

/-- In step `t` the second window holds the elements of the step's system, down a column. -/
theorem block_rows (t : Fin grid0.N) (j : Fin 256) : (iblk m c 1 t : S1x256x1.Idx → BitVec 32) (ix3 0 j 0)
    = (V m c main_v29 : S8x256x1.Idx → BitVec 32) (ix3 (system t) j 0) := by
  blk_ext [iblk, system, (places t).2.1]

/-- In step `t` the third window holds the coordinates of the step's system, one row per axis. -/
theorem block_coord (t : Fin grid0.N) (a : Fin 8) (j : Fin 256) : (iblk m c 2 t : S1x8x256.Idx → EReal) (ix3 0 a j)
    = (V m c main_v31 : S8x8x256.Idx → EReal) (ix3 (system t) a j) := by
  blk_ext [iblk, system, (places t).2.2.1]

/-- In every step the fourth window holds the whole stacked table of coefficients and reference numbers. -/
theorem block_stacked (t : Fin grid0.N) (u : Fin 192) (w : Fin 6400) : (iblk m c 3 t : S192x6400.Idx → EReal) (ix2 u w)
    = (V m c main_v10 : S192x6400.Idx → EReal) (ix2 u w) := by
  blk_ext [iblk, (places t).2.2.2.1]

/-- In every step the fifth window holds the whole small table of radii and moments. -/
theorem block_small (t : Fin grid0.N) (u : Fin 8) (w : Fin 256) : (iblk m c 4 t : S8x256.Idx → EReal) (ix2 u w)
    = (V m c main_v27 : S8x256.Idx → EReal) (ix2 u w) := by
  blk_ext [iblk, (places t).2.2.2.2.1]

variable (z : Fin 8 → Fin 256 → Fin 95)

/-- The blocks at grid point `t` hold system `t` and the tables. -/
theorem blocks_hold (hz : ∀ b i, (m ((c : Thread nD τ).loc main_arg1) : S8x256.Idx → BitVec 32) (ix2 b i) = BitVec.ofNat 32 (z b i).val) (t : Fin grid0.N) :
    Holds (iblk m c 0 t) (iblk m c 1 t) (iblk m c 2 t) (iblk m c 3 t) (iblk m c 4 t) (z (system t)) (kerX m c (system t))
      (kerR m c) (kerQ m c) (kerT m c) (kerG m c) := by
  obtain ⟨e0, e1, e2, e3, e4⟩ := entry_arrays m c
  constructor
  · intro j
    refine (block_cols m c t j).trans ?_
    rw [e0]
    exact (cols_entry _ (system t) j).trans (hz (system t) j)
  · intro j
    refine (block_rows m c t j).trans ?_
    rw [e1]
    exact (rows_entry _ (system t) j).trans (hz (system t) j)
  · intro i
    refine (block_coord m c t 0 i).trans ?_
    rw [e2]
    exact coord_entry _ (system t) i 0
  · intro i
    refine (block_coord m c t 1 i).trans ?_
    rw [e2]
    exact coord_entry _ (system t) i 1
  · intro i
    refine (block_coord m c t 2 i).trans ?_
    rw [e2]
    exact coord_entry _ (system t) i 2
  · intro n u v
    refine (block_stacked m c t _ _).trans ?_
    rw [e3]
    exact (stacked_hi _ _ u _).trans (side_coeff _ _ n u v)
  · intro n u v
    refine (block_stacked m c t _ _).trans ?_
    rw [e3]
    exact (stacked_lo _ _ u _).trans (congrArg (fun x : EReal => x - x) (side_coeff _ _ n u v))
  · intro n u v
    refine (block_stacked m c t _ _).trans ?_
    rw [e3]
    exact (stacked_hi _ _ u _).trans (side_state _ _ n u v)
  · intro n u v
    refine (block_stacked m c t _ _).trans ?_
    rw [e3]
    exact (stacked_lo _ _ u _).trans (congrArg (fun x : EReal => x - x) (side_state _ _ n u v))
  · intro u
    refine (block_small m c t _ _).trans ?_
    rw [e4]
    exact small_radHi _ _ u
  · intro u
    refine (block_small m c t _ _).trans ?_
    rw [e4]
    exact small_radLo _ _ u
  · intro u
    refine (block_small m c t _ _).trans ?_
    rw [e4]
    exact small_momHi _ _ u
  · intro u
    refine (block_small m c t _ _).trans ?_
    rw [e4]
    exact small_momLo _ _ u

/-- The energy of system `b`, from the argument arrays. -/
def energyOf (b : Fin 8) : EReal :=
  kerEnergy (kerX m c b) (fun i => kerR m c (z b i)) (fun i => kerQ m c (z b i)) (fun i j => kerT m c (z b i) (z b j)) (fun i j => kerG m c (z b i) (z b j))

/-- THE REGION'S OUTPUT ARRAY: every entry of row `b` is the energy of system `b`. -/
theorem region_out (hz : ∀ b i, (m ((c : Thread nD τ).loc main_arg1) : S8x256.Idx → BitVec 32) (ix2 b i) = BitVec.ofNat 32 (z b i).val) :
    (dats m 0 c).arrAt 5 (cfgs 0).N = (fun i => energyOf m c z (i 0) : S8x1x128.Idx → EReal) := by
  refine (dats m 0 c).arrAt_eq_of_covers 5 _ (by decide +kernel) fun t hf y => ?_
  blk_simp
  rw [after0_5, out_eq]
  frame_out
  have ey : (y : S1x1x128.Idx) = ix3 0 0 (y 2) := by
    funext a
    match a with
    | ⟨0, _⟩ => exact Subsingleton.elim (α := Fin 1) _ _
    | ⟨1, _⟩ => exact Subsingleton.elim (α := Fin 1) _ _
    | ⟨2, _⟩ => rfl
  have h := (congrArg (stored (iblk m c 0 t) (iblk m c 1 t) (iblk m c 2 t) (iblk m c 3 t) (iblk m c 4 t) : S1x1x128.Idx → EReal) ey).trans
    (stored_at (blocks_hold m c z hz t) (y 2))
  refine h.trans (congrArg (energyOf m c z) (Fin.ext ?_))
  have h0 : (y 0).val = 0 := congrArg Fin.val (congrFun ey 0)
  blk_simp [(places t).2.2.2.2.2]
  show t.val = _
  omega

/-- THE KERNEL'S RUN: on every device every result entry is the energy of its system. -/
theorem kernel_run (ρ : Dev nD → PrngReg) (z : Dev nD → Fin 8 → Fin 256 → Fin 95)
    (hz : ∀ (c : Dev nD) b i, (m ((c : Thread nD τ).loc main_arg1) : S8x256.Idx → BitVec 32) (ix2 b i) = BitVec.ofNat 32 (z c b i).val) :
    θ_run defs (onTc (τ := τ) (main (F := Ideal))) ⟨m, fun _ => 0, ρ⟩ (fun r => ∀ c : Dev nD,
      r.2.mem ((c.tc : Thread nD τ).loc main_v34) = (fun i => energyOf m c (z c) (i 0) : S8.Idx → EReal)) := by
  refine (θ_run defs _ _).mono (fun r h c => ?_) (run_main m ρ)
  refine ((h c).2 main_v34 (Pipeline.mem_restRefs_of main_v34 (by decide) (by decide))).trans ?_
  unfold Pipeline.afterTail₀
  simp only [hostOps1, List.flatten_cons, List.flatten_nil, List.append_nil, List.cons_append, List.nil_append]
  after_results
  have e : Pipeline.withArrays (cfgs 0).spec c (V0 m c) (fun w => (dats m 0 c).arrAt w (cfgs 0).N) (Proc.devRef .tc main_v32)
      = (fun i => energyOf m c (z c) (i 0) : S8x1x128.Idx → EReal) :=
    (Pipeline.withArrays_arr (cfgs 0).spec launch0.win.arr_inj c (V0 m c) (fun w => (dats m 0 c).arrAt w (cfgs 0).N) 5).trans
      (region_out m c (z c) (hz c))
  rw [e]
  funext i
  have ei : i = ix1 (i 0) := by funext a; match a with | ⟨0, _⟩ => rfl
  rw [ei]
  show shapeCast S8 (extractStridedSlice S8x1x1 ![0, 0, 0] (fun i => energyOf m c (z c) (i 0) : S8x1x128.Idx → EReal)
    slices_S8x1x128_S8x1x1_0_0_0) shapeCasts_S8x1x1_S8 (ix1 (i 0)) = energyOf m c (z c) (i 0)
  pointwise

end Cert.Energy

end
-- ==== Proof.HostRead.lean ====
/- Two host operations of the reference read at an index: the gather of a 5×5 table per pair of atoms from the table of
   all pairs of elements, and the sum over the last two of five axes. -/
module

public import Idealize.ShloMosaic.Lib.Pipeline.ValueKit
public import proofs.«01_k».proof.Proof.Gen.ReferenceIdeal

@[expose] public section

set_option maxRecDepth 16384

noncomputable section

namespace Cert.Energy

open Idealize.ShloMosaic Cert.ReferenceIdeal Cert.ReferenceIdeal.Gen

/-- The position in the array of start indices that holds component `k` of the pair of atoms `(i, j)` of system `b`. -/
abbrev pairIdx (b : Fin 8) (i j : Fin 256) (k : Fin 2) : S8x256x256x2.Idx := ix4 b i j k

/-- THE TABLE GATHER AT `(b, i, j, p, q)`: where the two start indices are element numbers `u`, `v` below 95, the entry
    `(u, v, p, q)` of the table. -/
theorem gather_pair {α : Type} (x : S95x95x5x5.Idx → α) (idx : IVec S8x256x256x2 32) (b : Fin 8) (i j : Fin 256) (p q : Fin 5)
    (u v : Fin 95) (hu : idx (pairIdx b i j 0) = BitVec.ofNat 32 u.val) (hv : idx (pairIdx b i j 1) = BitVec.ofNat 32 v.val) :
    Host.gather gather_S95x95x5x5_S8x256x256x2_S8x256x256x5x5_34_01_n_n_01_3_1155 x idx (ix5 b i j p q) = x (ix4 u v p q) := by
  have key : ∀ w : Fin 95, min (BitVec.ofNat 32 w.val).toInt.toNat 94 = w.val := by
    decide
  have hk : ∀ (k : Fin 2) (hl : k.val < gather_S95x95x5x5_S8x256x256x2_S8x256x256x5x5_34_01_n_n_01_3_1155.startIndexMap.length),
      gather_S95x95x5x5_S8x256x256x2_S8x256x256x5x5_34_01_n_n_01_3_1155.siIdx (ix5 b i j p q) ⟨k.val, hl⟩ = pairIdx b i j k := by
    intro k hl
    funext a
    refine Fin.ext ?_
    match a with
    | ⟨0, _⟩ => rfl
    | ⟨1, _⟩ => rfl
    | ⟨2, _⟩ => rfl
    | ⟨3, _⟩ => rfl
  unfold Host.gather
  refine congrArg x (funext fun a => Fin.ext ?_)
  match a with
  | ⟨0, _⟩ =>
    show min (idx _).toInt.toNat 94 + 0 + 0 = u.val
    erw [hk 0 (by decide)]
    rw [hu, key, Nat.add_zero]
  | ⟨1, _⟩ =>
    show min (idx _).toInt.toNat 94 + 0 + 0 = v.val
    erw [hk 1 (by decide)]
    rw [hv, key, Nat.add_zero]
  | ⟨2, _⟩ =>
    show 0 + 0 + p.val = p.val
    omega
  | ⟨3, _⟩ =>
    show 0 + 0 + q.val = q.val
    omega

/-- THE TABLE GATHER AT `(b, i)` of a table with one number per element. -/
theorem gather_one {α : Type} (x : S95.Idx → α) (idx : IVec S8x256x1 32) (b : Fin 8) (i : Fin 256)
    (u : Fin 95) (hu : idx (ix3 b i 0) = BitVec.ofNat 32 u.val) :
    Host.gather gather_S95_S8x256x1_S8x256_n_0_n_n_0_2_1 x idx (ix2 b i) = x (ix1 u) := by
  have key : ∀ w : Fin 95, min (BitVec.ofNat 32 w.val).toInt.toNat 94 = w.val := by
    decide
  have e := ValueIdx.gather_take_apply (N := 95) (R := 8) (C := 256) (by decide) gather_S95_S8x256x1_S8x256_n_0_n_n_0_2_1_wf x idx (ix2 b i)
  refine e.trans (congrArg x (funext fun a => Fin.ext ?_))
  obtain rfl : a = 0 := Subsingleton.elim _ _
  have ht : ValueIdx.takeIdx (R := 8) (C := 256) (ix2 b i) = ix3 b i 0 := by
    funext a
    refine Fin.ext ?_
    match a with
    | ⟨0, _⟩ => rfl
    | ⟨1, _⟩ => rfl
    | ⟨2, _⟩ => rfl
  show min (idx _).toInt.toNat 94 = u.val
  rw [ht, hu, key]

/-- THE SUM OVER THE LAST TWO AXES at `(b, i, j)`. -/
theorem reduce_states (x : S8x256x256x5x5.Idx → EReal) (init : EReal) (b : Fin 8) (i j : Fin 256) :
    Ideal.hostReduceAdd reducesTo_S8x256x256x5x5_S8x256x256_d3_4 x init (ix3 b i j)
      = init + ∑ p : Fin 5, ∑ q : Fin 5, x (ix5 b i j p q) := by
  unfold Ideal.hostReduceAdd
  refine congrArg (init + ·) ?_
  rw [← Fintype.sum_prod_type' (f := fun p q => x (ix5 b i j p q))]
  refine Finset.sum_filter_eq_sum_of_fiber _ (fun k : Fin 5 × Fin 5 => ix5 b i j k.1 k.2) ?_ ?_ x
  · intro k l e
    exact Prod.ext (congrFun e 3) (congrFun e 4)
  · intro y
    constructor
    · intro h
      refine ⟨(y 3, y 4), ?_⟩
      funext a
      refine Fin.ext ?_
      match a with
      | ⟨0, _⟩ => exact (congrArg Fin.val (congrFun h 0)).symm
      | ⟨1, _⟩ => exact (congrArg Fin.val (congrFun h 1)).symm
      | ⟨2, _⟩ => exact (congrArg Fin.val (congrFun h 2)).symm
      | ⟨3, _⟩ => rfl
      | ⟨4, _⟩ => rfl
    · rintro ⟨k, rfl⟩
      funext a
      refine Fin.ext ?_
      match a with
      | ⟨0, _⟩ => rfl
      | ⟨1, _⟩ => rfl
      | ⟨2, _⟩ => rfl

end Cert.Energy

end
-- ==== Proof.Ref.lean ====
/- What the reference computes, read at an index: the composed term of its operations is the formula `refEnergy` of the
   coordinates and of the table entries of each atom's element. The element numbers are given as words of numbers below 95. -/
module

public import proofs.«01_k».proof.Proof.Gen.ReferenceIdeal.Run
public import proofs.«01_k».proof.Proof.HostRead
public import proofs.«01_k».proof.Proof.Model

@[expose] public section

set_option maxRecDepth 16384

noncomputable section

namespace Cert.Energy

open Idealize.ShloMosaic Cert.ReferenceIdeal Cert.ReferenceIdeal.Gen Cert.ReferenceIdeal.Value Idealize.ShloMosaic.TcCoe

/-- A one-bit conjunction of two decided propositions. -/
theorem select_near {α : Type} (i j : Fin 256) (P : Prop) [Decidable P] (m : BitVec 1) (a b : α)
    (hm : m = IntOp.andi (~~~BitVec.ofBool (decide (i = j))) (BitVec.ofBool (decide P))) (Q : Prop) [Decidable Q] (hQ : Q ↔ i ≠ j ∧ P) :
    Scalar.select m a b = if Q then a else b := by
  subst hm
  by_cases h : i = j <;> by_cases hP : P
  · rw [if_neg fun q => (hQ.mp q).1 h]; simp [h, hP]; rfl
  · rw [if_neg fun q => (hQ.mp q).1 h]; simp [h, hP]; rfl
  · rw [if_pos (hQ.mpr ⟨h, hP⟩)]; simp [h, hP]; rfl
  · rw [if_neg fun q => hP (hQ.mp q).2]; simp [h, hP]; rfl

/-- Two coordinates below 256 are the same word exactly when they are equal. -/
theorem cmpi_coord (i j : Fin 256) : IntOp.cmpi .eq (BitVec.ofNat 32 i.val) (BitVec.ofNat 32 j.val) = BitVec.ofBool (decide (i = j)) := by
  have e : (BitVec.ofNat 32 i.val == BitVec.ofNat 32 j.val) = decide (i = j) := by
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      exact Fin.ext this
    · rintro rfl; rfl
  exact congrArg BitVec.ofBool e

/-- An element number is not negative, so wrapping a negative index leaves it. -/
theorem wrap_elem (u : Fin 95) : Scalar.select (IntOp.cmpi .slt (BitVec.ofNat 32 u.val) 0#32)
    (IntOp.addi (BitVec.ofNat 32 u.val) 95#32) (BitVec.ofNat 32 u.val) = BitVec.ofNat 32 u.val := by
  revert u; decide

variable (V0 : Valuation τ sig (Elt Ideal)) (z : Fin 8 → Fin 256 → Fin 95)

/-- The coordinates of the atoms of system `b`. -/
abbrev refX (b : Fin 8) (i : Fin 256) (a : Fin 3) : EReal := (V0 (Proc.devRef .tc main_arg0) : S8x256x3.Idx → EReal) (ix3 b i a)
/-- An entry of the table of radii. -/
abbrev refR (b : Fin 8) (i : Fin 256) : EReal := (V0 (Proc.devRef .tc main_arg2) : S95.Idx → EReal) (ix1 (z b i))
/-- An entry of the table of moments. -/
abbrev refQ (b : Fin 8) (i : Fin 256) : EReal := (V0 (Proc.devRef .tc main_arg3) : S95.Idx → EReal) (ix1 (z b i))
/-- An entry of the table of coefficients. -/
abbrev refG (b : Fin 8) (i j : Fin 256) (p q : Fin 5) : EReal :=
  (V0 (Proc.devRef .tc main_arg4) : S95x95x5x5.Idx → EReal) (ix4 (z b i) (z b j) p q)
/-- An entry of the table of reference coordination numbers. -/
abbrev refT (b : Fin 8) (i j : Fin 256) (p q : Fin 5) : EReal :=
  (V0 (Proc.devRef .tc main_arg5) : S95x95x5x5.Idx → EReal) (ix4 (z b i) (z b j) p q)

/-- The distances. -/
theorem ref_dist (b : Fin 8) (i j : Fin 256) : (res_main_v13 V0 : S8x256x256.Idx → EReal) (ix3 b i j) = dist (refX V0 b) i j := by
  pointwise [res_main_v13, res_main_v11, res_main_v4]
  rw [show IntOp.addi (BitVec.ofNat 32 i.val) 0#32 = BitVec.ofNat 32 i.val from BitVec.add_zero _, cmpi_coord]
  unfold dist dist2
  by_cases h : i = j
  · rw [if_pos h, decide_eq_true h]
    exact congrArg Ideal.sqrt Ideal.ofBits_one_f32
  · rw [if_neg h, decide_eq_false h]
    rfl

/-- The mask of the pairs that count. -/
theorem ref_mask (b : Fin 8) (i j : Fin 256) {α : Type} (s t : α) :
    Scalar.select ((res_main_v19 V0 : S8x256x256.Idx → BitVec 1) (ix3 b i j)) s t = if Near (refX V0 b) i j then s else t := by
  refine select_near i j (dist (refX V0 b) i j < Ideal.ofBits .f32 0x41700000#32) _ s t ?_ _ Iff.rfl
  pointwise [res_main_v19, res_main_v11]
  rw [show IntOp.addi (BitVec.ofNat 32 i.val) 0#32 = BitVec.ofNat 32 i.val from BitVec.add_zero _, cmpi_coord]
  erw [ref_dist V0 b i j]

/-- The position in the smoothing window. -/
theorem ref_window (b : Fin 8) (i j : Fin 256) : (res_main_v156 V0 : S8x256x256.Idx → EReal) (ix3 b i j) = window (dist (refX V0 b) i j) := by
  pointwise [res_main_v156]
  erw [ref_dist V0 b i j]
  exact congrArg₂ (fun x y : EReal => min x y) Ideal.ofBits_one_f32 (congrArg₂ (fun x y : EReal => max x y) Ideal.ofBits_zero_f32 rfl)

section
variable (hz : ∀ b i, (V0 (Proc.devRef .tc main_arg1) : S8x256.Idx → BitVec 32) (ix2 b i) = BitVec.ofNat 32 (z b i).val)
include hz

/-- The gathered radii. -/
theorem ref_radius (b : Fin 8) (i : Fin 256) : (res_main_v26 V0 : S8x256.Idx → EReal) (ix2 b i) = refR V0 z b i := by
  unfold res_main_v26
  refine gather_one _ _ b i (z b i) ?_
  pointwise []
  rw [hz, wrap_elem]

/-- The coordination numbers. -/
theorem ref_coordination (b : Fin 8) (i : Fin 256) :
    (res_main_v45 V0 : S8x256.Idx → EReal) (ix2 b i) = coordination (refX V0 b) (refR V0 z b) i := by
  pointwise [res_main_v45]
  change @Eq EReal _ _
  refine Finset.sum_congr rfl fun j _ => ?_
  refine (ref_mask V0 b i j _ _).trans (if_congr Iff.rfl ?_ Ideal.ofBits_zero_f32)
  erw [ref_dist V0 b i j, ref_radius V0 z hz b i, ref_radius V0 z hz b j]
  rfl

/-- The gathered coefficients. -/
theorem ref_coeff (b : Fin 8) (i j : Fin 256) (p q : Fin 5) :
    (res_main_v63 V0 : S8x256x256x5x5.Idx → EReal) (ix5 b i j p q) = refG V0 z b i j p q := by
  unfold res_main_v63
  refine gather_pair _ _ b i j p q (z b i) (z b j) ?_ ?_
  · pointwise [res_main_v46, res_main_v47]
    rw [hz, wrap_elem]
  · pointwise [res_main_v46, res_main_v47]
    rw [hz, wrap_elem]

/-- The gathered reference coordination numbers. -/
theorem ref_state (b : Fin 8) (i j : Fin 256) (p q : Fin 5) :
    (res_main_v81 V0 : S8x256x256x5x5.Idx → EReal) (ix5 b i j p q) = refT V0 z b i j p q := by
  unfold res_main_v81
  refine gather_pair _ _ b i j p q (z b i) (z b j) ?_ ?_
  · pointwise [res_main_v64, res_main_v65]
    rw [hz, wrap_elem]
  · pointwise [res_main_v64, res_main_v65]
    rw [hz, wrap_elem]

/-- The first atom's coordination number less the reference number. -/
theorem ref_diff (b : Fin 8) (i j : Fin 256) (p q : Fin 5) : (res_main_v85 V0 : S8x256x256x5x5.Idx → EReal) (ix5 b i j p q)
    = coordination (refX V0 b) (refR V0 z b) i - refT V0 z b i j p q := by
  pointwise [res_main_v85]
  exact congrArg₂ (fun x y : EReal => x - y) (ref_coordination V0 z hz b i) (ref_state V0 z hz b i j p q)

/-- The second atom's coordination number less its reference number. -/
theorem ref_diff_flip (b : Fin 8) (i j : Fin 256) (p q : Fin 5) : (res_main_v88 V0 : S8x256x256x5x5.Idx → EReal) (ix5 b i j p q)
    = coordination (refX V0 b) (refR V0 z b) j - refT V0 z b j i q p := by
  pointwise [res_main_v88]
  exact congrArg₂ (fun x y : EReal => x - y) (ref_coordination V0 z hz b j) (ref_state V0 z hz b j i q p)

/-- The weights of the state pairs. -/
theorem ref_weight (b : Fin 8) (i j : Fin 256) (p q : Fin 5) :
    (res_main_v97 V0 : S8x256x256x5x5.Idx → EReal) (ix5 b i j p q)
      = refWeight (coordination (refX V0 b) (refR V0 z b)) (refT V0 z b) (refG V0 z b) i j p q := by
  pointwise [res_main_v97]
  erw [ref_coeff V0 z hz b i j p q, ref_diff V0 z hz b i j p q, ref_diff_flip V0 z hz b i j p q]
  exact if_congr Iff.rfl rfl Ideal.ofBits_zero_f32

/-- The interpolated coefficients. -/
theorem ref_c6 (b : Fin 8) (i j : Fin 256) : (res_main_v103 V0 : S8x256x256.Idx → EReal) (ix3 b i j)
    = refC6 (coordination (refX V0 b) (refR V0 z b)) (refT V0 z b) (refG V0 z b) i j := by
  pointwise [res_main_v103]
  erw [reduce_states _ _ b i j, reduce_states _ _ b i j]
  rw [zero_add, zero_add]
  unfold refC6
  refine congrArg₂ Ideal.div (Finset.sum_congr rfl fun p _ => Finset.sum_congr rfl fun q _ => ?_)
    (congrArg (· + _) (Finset.sum_congr rfl fun p _ => Finset.sum_congr rfl fun q _ => ?_))
  · pointwise []
    erw [ref_weight V0 z hz b i j p q, ref_coeff V0 z hz b i j p q]
  · exact ref_weight V0 z hz b i j p q

/-- The products of moments. -/
theorem ref_moments (b : Fin 8) (i j : Fin 256) : (res_main_v124 V0 : S8x256x256.Idx → EReal) (ix3 b i j)
    = moments (refQ V0 z b) i j := by
  have h : ∀ i, (Host.gather gather_S95_S8x256x1_S8x256_n_0_n_n_0_2_1 (V0 (Proc.devRef .tc main_arg3))
      (broadcastInDim S8x256x1 ![0, 1] bcast_S8x256_S8x256x1_0_1 (select (cmpi .slt (V0 (Proc.devRef .tc main_arg1))
        (broadcastInDim S8x256 ![] bcast_S_S8x256 (constantI S_ 32 0#32))) (addi (V0 (Proc.devRef .tc main_arg1))
        (broadcastInDim S8x256 ![] bcast_S_S8x256 (constantI S_ 32 95#32))) (V0 (Proc.devRef .tc main_arg1))))
        : S8x256.Idx → EReal) (ix2 b i) = refQ V0 z b i := by
    intro i
    refine gather_one _ _ b i (z b i) ?_
    pointwise []
    rw [hz, wrap_elem]
  pointwise [res_main_v124]
  erw [h, h]
  rfl

/-- THE REFERENCE'S ENERGY of system `b`. -/
theorem ref_energy (b : Fin 8) :
    (val4 V0 (Proc.devRef .tc main_v169) : S8.Idx → EReal) (ix1 b)
      = refEnergy (refX V0 b) (refR V0 z b) (refQ V0 z b) (refT V0 z b) (refG V0 z b) := by
  rw [val4_main_v169]
  pointwise []
  unfold refEnergy
  change @Eq EReal _ _
  refine congrArg (Ideal.ofBits .f32 0xBF000000#32 * ·) (Finset.sum_congr rfl fun i _ => Finset.sum_congr rfl fun j _ => ?_)
  refine (ref_mask V0 b i j _ _).trans (if_congr Iff.rfl ?_ Ideal.ofBits_zero_f32)
  pointwise [res_main_v131, res_main_v139, res_main_v135, res_main_v147, res_main_v134, res_main_v146, res_main_v130]
  erw [ref_window V0 b i j, ref_dist V0 b i j, ref_c6 V0 z hz b i j, ref_moments V0 z hz b i j]
  rfl

end

end Cert.Energy

end
-- ==== Proof.Range.lean ====
/- What the precondition says of the arguments: elements are below 95, radii are below infinity, coefficients are positive
   and finite. -/
module

public import proofs.«01_k».proof.Proof.Gen.Pre_in_range
public import Idealize.ShloMosaic.Lib.Pipeline.ValueKit
public import Idealize.ShloMosaic.PureOps.Ideal
public import Idealize.ShloMosaic.Lib.Tactic.WordOmega

@[expose] public section

noncomputable section

namespace Cert.Energy

open Idealize.ShloMosaic Cert.Pre_in_range

/-- The infinity's bit pattern is the top. -/
theorem ofBits_inf : Ideal.ofBits .f32 0x7F800000#32 = (⊤ : EReal) := by
  simp [Ideal.ofBits, Ideal.ieee]

/-- A word between 0 and 94 is the word of a number below 95. -/
theorem word_small (w : BitVec 32) (h : IntOp.andi (IntOp.cmpi .sge w 0#32) (IntOp.cmpi .slt w 95#32) = 1#1) :
    ∃ u : Fin 95, w = BitVec.ofNat 32 u.val := by
  have hw : w.toNat < 95 := by
    word_omega
  exact ⟨⟨w.toNat, hw⟩, by simp⟩

variable (a0 : FVec Ideal S8x256x3 .f32) (a1 : IVec S8x256 32) (a2 a3 : FVec Ideal S95 .f32) (a4 a5 : FVec Ideal S95x95x5x5 .f32)

/-- Elements are below 95. -/
theorem elements_small (h : (fn (F := Ideal) a0 a1 a2 a3 a4 a5).1 = (fun _ => 1#1)) (b : Fin 8) (i : Fin 256) :
    ∃ u : Fin 95, a1 (ix2 b i) = BitVec.ofNat 32 u.val :=
  word_small _ (congrFun h (ix2 b i))

/-- Radii are below infinity. -/
theorem radii_lt (h : (fn (F := Ideal) a0 a1 a2 a3 a4 a5).2.1 = (fun _ => 1#1)) (u : Fin 95) :
    (a2 : S95.Idx → EReal) (ix1 u) < ⊤ := by
  have e : BitVec.ofBool (decide ((a2 : S95.Idx → EReal) (ix1 u) < Ideal.ofBits .f32 0x7F800000#32)) = 1#1 := congrFun h (ix1 u)
  rw [ofBits_inf] at e
  by_contra hc
  rw [decide_eq_false hc] at e
  exact absurd e (by decide)

/-- Coefficients are positive and below infinity. -/
theorem coefficients_finite (h : (fn (F := Ideal) a0 a1 a2 a3 a4 a5).2.2 = (fun _ => 1#1)) (u v : Fin 95) (p q : Fin 5) :
    0 < (a4 : S95x95x5x5.Idx → EReal) (ix4 u v p q) ∧ (a4 : S95x95x5x5.Idx → EReal) (ix4 u v p q) < ⊤ := by
  have e : IntOp.andi (BitVec.ofBool (decide (Ideal.ofBits .f32 0x00000000#32 < (a4 : S95x95x5x5.Idx → EReal) (ix4 u v p q))))
      (BitVec.ofBool (decide ((a4 : S95x95x5x5.Idx → EReal) (ix4 u v p q) < Ideal.ofBits .f32 0x7F800000#32))) = 1#1 :=
    congrFun h (ix4 u v p q)
  rw [ofBits_inf, Ideal.ofBits_zero_f32] at e
  refine ⟨?_, ?_⟩
  · by_contra hc
    rw [decide_eq_false hc] at e
    exact absurd (congrArg BitVec.toNat e) (by simp [IntOp.andi])
  · by_contra hc
    rw [decide_eq_false hc] at e
    exact absurd (congrArg BitVec.toNat e) (by simp [IntOp.andi])

end Cert.Energy

end
-- ==== Proof.Algebraic.lean ====
/- The value claim: on arguments the precondition admits, the kernel's eight energies are the reference's. -/
module

public import proofs.«01_k».proof.Defs
public import proofs.«01_k».proof.Proof.KernelRun
public import proofs.«01_k».proof.Proof.Ref
public import proofs.«01_k».proof.Proof.Range
public import Idealize.ShloMosaic.Lib.Claim
public import Idealize.ShloMosaic.Lib.Quiescent

@[expose] public section

noncomputable section

namespace Cert.Energy

open Idealize.ShloMosaic Idealize.ShloMosaic.TcCoe Idealize.SL.Sem

/-- The reference runs, ends with its arguments unchanged and, having no semaphore at all, with every counter at zero. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From arguments that agree, the reference's eight energies are the kernel's, when the elements are numbers below 95, the
    radii are below infinity and the coefficients are positive and finite. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (z : Fin 8 → Fin 256 → Fin 95)
    (hz : ∀ b i, (m ((c : Thread Cert.KernelIdeal.nD Cert.KernelIdeal.τ).loc Cert.KernelIdeal.main_arg1)
      : Cert.KernelIdeal.S8x256.Idx → BitVec 32) (ix2 b i) = BitVec.ofNat 32 (z b i).val)
    (hR : ∀ u, kerR m c u < ⊤) (hG : ∀ u v p q, 0 < kerG m c u v p q ∧ kerG m c u v p q < ⊤)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.val4 (StableHlo.launchContents m' c) (Proc.devRef .tc Cert.ReferenceIdeal.main_v169)
      : Cert.ReferenceIdeal.S8.Idx → EReal) = fun i => energyOf m c z (i 0) := by
  have eX : ∀ b, refX (StableHlo.launchContents m' c) b = kerX m c b := fun b =>
    funext fun i => funext fun a => congrFun h0 (ix3 b i a)
  have eR : ∀ b, refR (StableHlo.launchContents m' c) z b = fun i => kerR m c (z b i) := fun b =>
    funext fun i => congrFun h2 (ix1 (z b i))
  have eQ : ∀ b, refQ (StableHlo.launchContents m' c) z b = fun i => kerQ m c (z b i) := fun b =>
    funext fun i => congrFun h3 (ix1 (z b i))
  have eG : ∀ b, refG (StableHlo.launchContents m' c) z b = fun i j => kerG m c (z b i) (z b j) := fun b =>
    funext fun i => funext fun j => funext fun p => funext fun q => congrFun h4 (ix4 (z b i) (z b j) p q)
  have eT : ∀ b, refT (StableHlo.launchContents m' c) z b = fun i j => kerT m c (z b i) (z b j) := fun b =>
    funext fun i => funext fun j => funext fun p => funext fun q => congrFun h5 (ix4 (z b i) (z b j) p q)
  funext i
  obtain ⟨b, rfl⟩ : ∃ b : Fin 8, i = ix1 b := ⟨i 0, funext fun k => by fin_cases k; rfl⟩
  refine (ref_energy (StableHlo.launchContents m' c) z (fun b i => (congrFun h1 (ix2 b i)).trans (hz b i)) b).trans ?_
  rw [eX, eR, eQ, eG, eT]
  exact (kerEnergy_eq _ _ _ _ _ (fun i => hR (z b i)) fun i j => hG (z b i) (z b j)).symm

/-- THE VALUE CLAIM: on every argument the precondition admits both programs run, end with equal energies and leave their
    arguments unchanged. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hagree
  have hall : ∀ (c : Dev Cert.KernelIdeal.nD) b i, ∃ u : Fin 95, (m ((c : Thread Cert.KernelIdeal.nD Cert.KernelIdeal.τ).loc Cert.KernelIdeal.main_arg1)
      : Cert.KernelIdeal.S8x256.Idx → BitVec 32) (ix2 b i) = BitVec.ofNat 32 u.val := fun c b i =>
    elements_small _ _ _ _ _ _ (hpre c).1 b i
  choose z hz using hall
  refine ⟨fun c => (fun i => energyOf m c (z c) (i 0) : Cert.KernelIdeal.S8.Idx → EReal), ?_, ?_⟩
  · exact (θ_run _ _ _).mono (fun r h c => ⟨h.1 c, h.2 c⟩) (θ_run_and (kernel_run m g z hz) (Cert.KernelIdeal.Gen.unchanged m g))
  · refine (θ_run _ _ _).mono (fun r h c => ⟨(h c).1.trans ?_, (h c).2⟩) (Cert.ReferenceIdeal.Value.run m' g')
    obtain ⟨h0, h1, h2, h3, h4, h5⟩ := hagree c
    exact (Cert.ReferenceIdeal.Value.val4_main_v169 (StableHlo.launchContents m' c)).symm.trans
      (results_agree m m' c (z c) (hz c) (radii_lt _ _ _ _ _ _ (hpre c).2.1) (coefficients_finite _ _ _ _ _ _ (hpre c).2.2) h0 h1 h2 h3 h4 h5)

end Cert.Energy

end
-- ==== Proof.lean ====
/- The certificate's claim, assembled: the kernel's and its ideal reading's runs leave the arguments unchanged and every counter
   at zero (the generated frames), the reference's run does too, and the two ideal programs' eight energies are equal on every
   argument the precondition admits (`Proof/Algebraic.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_in_range
public import proofs.«01_k».proof.Proof.Gen.ReferenceIdeal.Run
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims holds. -/
theorem claim : Cert.Claim :=
  ⟨Cert.Kernel.Gen.facts, Cert.KernelIdeal.Gen.facts, Cert.ReferenceIdeal.Gen.facts, Cert.Pre_in_range.Gen.facts,
    fun m g _ => Cert.Kernel.Gen.frame m g, fun m g _ => Cert.KernelIdeal.Gen.frame m g, fun m g _ => Cert.KernelIdeal.Gen.frame m g,
    Cert.Energy.reference_frame, fun m g _ => Cert.Energy.reference_frame m g trivial, trivial, Cert.Energy.algebraic⟩

end Cert.Proof

end
